-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_Proj1RefIdeal (m : (ℓ : Loc Cert.Proj1RefIdeal.nD Cert.Proj1RefIdeal.τ Cert.Proj1RefIdeal.sig) → Buf (Elt Ideal) ℓ) : Prop :=
  True

def Pre_Proj3 (m : (ℓ : Loc Cert.Proj3.nD Cert.Proj3.τ Cert.Proj3.sig) → Buf (Elt Bits) ℓ) : Prop :=
  True

def Pre_Proj3Ideal (m : (ℓ : Loc Cert.Proj3Ideal.nD Cert.Proj3Ideal.τ Cert.Proj3Ideal.sig) → Buf (Elt Ideal) ℓ) : Prop :=
  True

def Pre_Proj3RefIdeal (m : (ℓ : Loc Cert.Proj3RefIdeal.nD Cert.Proj3RefIdeal.τ Cert.Proj3RefIdeal.sig) → Buf (Elt Ideal) ℓ) : Prop :=
  True

def Pre_Proj4 (m : (ℓ : Loc Cert.Proj4.nD Cert.Proj4.τ Cert.Proj4.sig) → Buf (Elt Bits) ℓ) : Prop :=
  True

def Pre_Proj4Ideal (m : (ℓ : Loc Cert.Proj4Ideal.nD Cert.Proj4Ideal.τ Cert.Proj4Ideal.sig) → Buf (Elt Ideal) ℓ) : Prop :=
  True

def Pre_Proj4RefIdeal (m : (ℓ : Loc Cert.Proj4RefIdeal.nD Cert.Proj4RefIdeal.τ Cert.Proj4RefIdeal.sig) → Buf (Elt Ideal) ℓ) : Prop :=
  True

def Pre_Proj6 (m : (ℓ : Loc Cert.Proj6.nD Cert.Proj6.τ Cert.Proj6.sig) → Buf (Elt Bits) ℓ) : Prop :=
  True

def Pre_Proj6Ideal (m : (ℓ : Loc Cert.Proj6Ideal.nD Cert.Proj6Ideal.τ Cert.Proj6Ideal.sig) → Buf (Elt Ideal) ℓ) : Prop :=
  True

def Pre_Proj6RefIdeal (m : (ℓ : Loc Cert.Proj6RefIdeal.nD Cert.Proj6RefIdeal.τ Cert.Proj6RefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Normmod (m : (ℓ : Loc Cert.Normmod.nD Cert.Normmod.τ Cert.Normmod.sig) → Buf (Elt Bits) ℓ) : Prop :=
  True

def Pre_NormmodIdeal (m : (ℓ : Loc Cert.NormmodIdeal.nD Cert.NormmodIdeal.τ Cert.NormmodIdeal.sig) → Buf (Elt Ideal) ℓ) : Prop :=
  True

def Pre_NormmodRefIdeal (m : (ℓ : Loc Cert.NormmodRefIdeal.nD Cert.NormmodRefIdeal.τ Cert.NormmodRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1))
      ∧ r.2.sem = fun _ => 0)

def quiescent_Proj1RefIdeal [hProj1RefIdeal : Cert.Proj1RefIdeal.Facts] : Prop :=
  ∀ (m : (ℓ : Loc Cert.Proj1RefIdeal.nD Cert.Proj1RefIdeal.τ Cert.Proj1RefIdeal.sig) → Buf (Elt Ideal) ℓ) (g : Dev Cert.Proj1RefIdeal.nD → PrngReg), Pre_Proj1RefIdeal m →
    θ_run (Cert.Proj1RefIdeal.defs (F := Ideal)) (onTc (τ := Cert.Proj1RefIdeal.τ) (Cert.Proj1RefIdeal.main (F := Ideal))) ⟨m, fun _ => 0, g⟩ (fun r => (∀ c : Dev Cert.Proj1RefIdeal.nD,
      r.2.mem ((c.tc : Thread Cert.Proj1RefIdeal.nD Cert.Proj1RefIdeal.τ).loc Cert.Proj1RefIdeal.main_arg0) = m ((c.tc : Thread Cert.Proj1RefIdeal.nD Cert.Proj1RefIdeal.τ).loc Cert.Proj1RefIdeal.main_arg0)
      ∧ r.2.mem ((c.tc : Thread Cert.Proj1RefIdeal.nD Cert.Proj1RefIdeal.τ).loc Cert.Proj1RefIdeal.main_arg1) = m ((c.tc : Thread Cert.Proj1RefIdeal.nD Cert.Proj1RefIdeal.τ).loc Cert.Proj1RefIdeal.main_arg1))
      ∧ r.2.sem = fun _ => 0)

def quiescent_Proj3 [hProj3 : Cert.Proj3.Facts] : Prop :=
  ∀ (m : (ℓ : Loc Cert.Proj3.nD Cert.Proj3.τ Cert.Proj3.sig) → Buf (Elt Bits) ℓ) (g : Dev Cert.Proj3.nD → PrngReg), Pre_Proj3 m →
    θ_run (Cert.Proj3.defs (F := Bits)) (onTc (τ := Cert.Proj3.τ) (Cert.Proj3.main (F := Bits))) ⟨m, fun _ => 0, g⟩ (fun r => (∀ c : Dev Cert.Proj3.nD,
      r.2.mem ((c.tc : Thread Cert.Proj3.nD Cert.Proj3.τ).loc Cert.Proj3.main_arg0) = m ((c.tc : Thread Cert.Proj3.nD Cert.Proj3.τ).loc Cert.Proj3.main_arg0)
      ∧ r.2.mem ((c.tc : Thread Cert.Proj3.nD Cert.Proj3.τ).loc Cert.Proj3.main_arg1) = m ((c.tc : Thread Cert.Proj3.nD Cert.Proj3.τ).loc Cert.Proj3.main_arg1))
      ∧ r.2.sem = fun _ => 0)

def quiescent_Proj3Ideal [hProj3Ideal : Cert.Proj3Ideal.Facts] : Prop :=
  ∀ (m : (ℓ : Loc Cert.Proj3Ideal.nD Cert.Proj3Ideal.τ Cert.Proj3Ideal.sig) → Buf (Elt Ideal) ℓ) (g : Dev Cert.Proj3Ideal.nD → PrngReg), Pre_Proj3Ideal m →
    θ_run (Cert.Proj3Ideal.defs (F := Ideal)) (onTc (τ := Cert.Proj3Ideal.τ) (Cert.Proj3Ideal.main (F := Ideal))) ⟨m, fun _ => 0, g⟩ (fun r => (∀ c : Dev Cert.Proj3Ideal.nD,
      r.2.mem ((c.tc : Thread Cert.Proj3Ideal.nD Cert.Proj3Ideal.τ).loc Cert.Proj3Ideal.main_arg0) = m ((c.tc : Thread Cert.Proj3Ideal.nD Cert.Proj3Ideal.τ).loc Cert.Proj3Ideal.main_arg0)
      ∧ r.2.mem ((c.tc : Thread Cert.Proj3Ideal.nD Cert.Proj3Ideal.τ).loc Cert.Proj3Ideal.main_arg1) = m ((c.tc : Thread Cert.Proj3Ideal.nD Cert.Proj3Ideal.τ).loc Cert.Proj3Ideal.main_arg1))
      ∧ r.2.sem = fun _ => 0)

def quiescent_Proj3RefIdeal [hProj3RefIdeal : Cert.Proj3RefIdeal.Facts] : Prop :=
  ∀ (m : (ℓ : Loc Cert.Proj3RefIdeal.nD Cert.Proj3RefIdeal.τ Cert.Proj3RefIdeal.sig) → Buf (Elt Ideal) ℓ) (g : Dev Cert.Proj3RefIdeal.nD → PrngReg), Pre_Proj3RefIdeal m →
    θ_run (Cert.Proj3RefIdeal.defs (F := Ideal)) (onTc (τ := Cert.Proj3RefIdeal.τ) (Cert.Proj3RefIdeal.main (F := Ideal))) ⟨m, fun _ => 0, g⟩ (fun r => (∀ c : Dev Cert.Proj3RefIdeal.nD,
      r.2.mem ((c.tc : Thread Cert.Proj3RefIdeal.nD Cert.Proj3RefIdeal.τ).loc Cert.Proj3RefIdeal.main_arg0) = m ((c.tc : Thread Cert.Proj3RefIdeal.nD Cert.Proj3RefIdeal.τ).loc Cert.Proj3RefIdeal.main_arg0)
      ∧ r.2.mem ((c.tc : Thread Cert.Proj3RefIdeal.nD Cert.Proj3RefIdeal.τ).loc Cert.Proj3RefIdeal.main_arg1) = m ((c.tc : Thread Cert.Proj3RefIdeal.nD Cert.Proj3RefIdeal.τ).loc Cert.Proj3RefIdeal.main_arg1))
      ∧ r.2.sem = fun _ => 0)

def quiescent_Proj4 [hProj4 : Cert.Proj4.Facts] : Prop :=
  ∀ (m : (ℓ : Loc Cert.Proj4.nD Cert.Proj4.τ Cert.Proj4.sig) → Buf (Elt Bits) ℓ) (g : Dev Cert.Proj4.nD → PrngReg), Pre_Proj4 m →
    θ_run (Cert.Proj4.defs (F := Bits)) (onTc (τ := Cert.Proj4.τ) (Cert.Proj4.main (F := Bits))) ⟨m, fun _ => 0, g⟩ (fun r => (∀ c : Dev Cert.Proj4.nD,
      r.2.mem ((c.tc : Thread Cert.Proj4.nD Cert.Proj4.τ).loc Cert.Proj4.main_arg0) = m ((c.tc : Thread Cert.Proj4.nD Cert.Proj4.τ).loc Cert.Proj4.main_arg0)
      ∧ r.2.mem ((c.tc : Thread Cert.Proj4.nD Cert.Proj4.τ).loc Cert.Proj4.main_arg1) = m ((c.tc : Thread Cert.Proj4.nD Cert.Proj4.τ).loc Cert.Proj4.main_arg1))
      ∧ r.2.sem = fun _ => 0)

def quiescent_Proj4Ideal [hProj4Ideal : Cert.Proj4Ideal.Facts] : Prop :=
  ∀ (m : (ℓ : Loc Cert.Proj4Ideal.nD Cert.Proj4Ideal.τ Cert.Proj4Ideal.sig) → Buf (Elt Ideal) ℓ) (g : Dev Cert.Proj4Ideal.nD → PrngReg), Pre_Proj4Ideal m →
    θ_run (Cert.Proj4Ideal.defs (F := Ideal)) (onTc (τ := Cert.Proj4Ideal.τ) (Cert.Proj4Ideal.main (F := Ideal))) ⟨m, fun _ => 0, g⟩ (fun r => (∀ c : Dev Cert.Proj4Ideal.nD,
      r.2.mem ((c.tc : Thread Cert.Proj4Ideal.nD Cert.Proj4Ideal.τ).loc Cert.Proj4Ideal.main_arg0) = m ((c.tc : Thread Cert.Proj4Ideal.nD Cert.Proj4Ideal.τ).loc Cert.Proj4Ideal.main_arg0)
      ∧ r.2.mem ((c.tc : Thread Cert.Proj4Ideal.nD Cert.Proj4Ideal.τ).loc Cert.Proj4Ideal.main_arg1) = m ((c.tc : Thread Cert.Proj4Ideal.nD Cert.Proj4Ideal.τ).loc Cert.Proj4Ideal.main_arg1))
      ∧ r.2.sem = fun _ => 0)

def quiescent_Proj4RefIdeal [hProj4RefIdeal : Cert.Proj4RefIdeal.Facts] : Prop :=
  ∀ (m : (ℓ : Loc Cert.Proj4RefIdeal.nD Cert.Proj4RefIdeal.τ Cert.Proj4RefIdeal.sig) → Buf (Elt Ideal) ℓ) (g : Dev Cert.Proj4RefIdeal.nD → PrngReg), Pre_Proj4RefIdeal m →
    θ_run (Cert.Proj4RefIdeal.defs (F := Ideal)) (onTc (τ := Cert.Proj4RefIdeal.τ) (Cert.Proj4RefIdeal.main (F := Ideal))) ⟨m, fun _ => 0, g⟩ (fun r => (∀ c : Dev Cert.Proj4RefIdeal.nD,
      r.2.mem ((c.tc : Thread Cert.Proj4RefIdeal.nD Cert.Proj4RefIdeal.τ).loc Cert.Proj4RefIdeal.main_arg0) = m ((c.tc : Thread Cert.Proj4RefIdeal.nD Cert.Proj4RefIdeal.τ).loc Cert.Proj4RefIdeal.main_arg0)
      ∧ r.2.mem ((c.tc : Thread Cert.Proj4RefIdeal.nD Cert.Proj4RefIdeal.τ).loc Cert.Proj4RefIdeal.main_arg1) = m ((c.tc : Thread Cert.Proj4RefIdeal.nD Cert.Proj4RefIdeal.τ).loc Cert.Proj4RefIdeal.main_arg1))
      ∧ r.2.sem = fun _ => 0)

def quiescent_Proj6 [hProj6 : Cert.Proj6.Facts] : Prop :=
  ∀ (m : (ℓ : Loc Cert.Proj6.nD Cert.Proj6.τ Cert.Proj6.sig) → Buf (Elt Bits) ℓ) (g : Dev Cert.Proj6.nD → PrngReg), Pre_Proj6 m →
    θ_run (Cert.Proj6.defs (F := Bits)) (onTc (τ := Cert.Proj6.τ) (Cert.Proj6.main (F := Bits))) ⟨m, fun _ => 0, g⟩ (fun r => (∀ c : Dev Cert.Proj6.nD,
      r.2.mem ((c.tc : Thread Cert.Proj6.nD Cert.Proj6.τ).loc Cert.Proj6.main_arg0) = m ((c.tc : Thread Cert.Proj6.nD Cert.Proj6.τ).loc Cert.Proj6.main_arg0)
      ∧ r.2.mem ((c.tc : Thread Cert.Proj6.nD Cert.Proj6.τ).loc Cert.Proj6.main_arg1) = m ((c.tc : Thread Cert.Proj6.nD Cert.Proj6.τ).loc Cert.Proj6.main_arg1))
      ∧ r.2.sem = fun _ => 0)

def quiescent_Proj6Ideal [hProj6Ideal : Cert.Proj6Ideal.Facts] : Prop :=
  ∀ (m : (ℓ : Loc Cert.Proj6Ideal.nD Cert.Proj6Ideal.τ Cert.Proj6Ideal.sig) → Buf (Elt Ideal) ℓ) (g : Dev Cert.Proj6Ideal.nD → PrngReg), Pre_Proj6Ideal m →
    θ_run (Cert.Proj6Ideal.defs (F := Ideal)) (onTc (τ := Cert.Proj6Ideal.τ) (Cert.Proj6Ideal.main (F := Ideal))) ⟨m, fun _ => 0, g⟩ (fun r => (∀ c : Dev Cert.Proj6Ideal.nD,
      r.2.mem ((c.tc : Thread Cert.Proj6Ideal.nD Cert.Proj6Ideal.τ).loc Cert.Proj6Ideal.main_arg0) = m ((c.tc : Thread Cert.Proj6Ideal.nD Cert.Proj6Ideal.τ).loc Cert.Proj6Ideal.main_arg0)
      ∧ r.2.mem ((c.tc : Thread Cert.Proj6Ideal.nD Cert.Proj6Ideal.τ).loc Cert.Proj6Ideal.main_arg1) = m ((c.tc : Thread Cert.Proj6Ideal.nD Cert.Proj6Ideal.τ).loc Cert.Proj6Ideal.main_arg1))
      ∧ r.2.sem = fun _ => 0)

def quiescent_Proj6RefIdeal [hProj6RefIdeal : Cert.Proj6RefIdeal.Facts] : Prop :=
  ∀ (m : (ℓ : Loc Cert.Proj6RefIdeal.nD Cert.Proj6RefIdeal.τ Cert.Proj6RefIdeal.sig) → Buf (Elt Ideal) ℓ) (g : Dev Cert.Proj6RefIdeal.nD → PrngReg), Pre_Proj6RefIdeal m →
    θ_run (Cert.Proj6RefIdeal.defs (F := Ideal)) (onTc (τ := Cert.Proj6RefIdeal.τ) (Cert.Proj6RefIdeal.main (F := Ideal))) ⟨m, fun _ => 0, g⟩ (fun r => (∀ c : Dev Cert.Proj6RefIdeal.nD,
      r.2.mem ((c.tc : Thread Cert.Proj6RefIdeal.nD Cert.Proj6RefIdeal.τ).loc Cert.Proj6RefIdeal.main_arg0) = m ((c.tc : Thread Cert.Proj6RefIdeal.nD Cert.Proj6RefIdeal.τ).loc Cert.Proj6RefIdeal.main_arg0)
      ∧ r.2.mem ((c.tc : Thread Cert.Proj6RefIdeal.nD Cert.Proj6RefIdeal.τ).loc Cert.Proj6RefIdeal.main_arg1) = m ((c.tc : Thread Cert.Proj6RefIdeal.nD Cert.Proj6RefIdeal.τ).loc Cert.Proj6RefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Normmod [hNormmod : Cert.Normmod.Facts] : Prop :=
  ∀ (m : (ℓ : Loc Cert.Normmod.nD Cert.Normmod.τ Cert.Normmod.sig) → Buf (Elt Bits) ℓ) (g : Dev Cert.Normmod.nD → PrngReg), Pre_Normmod m →
    θ_run (Cert.Normmod.defs (F := Bits)) (onTc (τ := Cert.Normmod.τ) (Cert.Normmod.main (F := Bits))) ⟨m, fun _ => 0, g⟩ (fun r => (∀ c : Dev Cert.Normmod.nD,
      r.2.mem ((c.tc : Thread Cert.Normmod.nD Cert.Normmod.τ).loc Cert.Normmod.main_arg0) = m ((c.tc : Thread Cert.Normmod.nD Cert.Normmod.τ).loc Cert.Normmod.main_arg0)
      ∧ r.2.mem ((c.tc : Thread Cert.Normmod.nD Cert.Normmod.τ).loc Cert.Normmod.main_arg1) = m ((c.tc : Thread Cert.Normmod.nD Cert.Normmod.τ).loc Cert.Normmod.main_arg1)
      ∧ r.2.mem ((c.tc : Thread Cert.Normmod.nD Cert.Normmod.τ).loc Cert.Normmod.main_arg2) = m ((c.tc : Thread Cert.Normmod.nD Cert.Normmod.τ).loc Cert.Normmod.main_arg2))
      ∧ r.2.sem = fun _ => 0)

def quiescent_NormmodIdeal [hNormmodIdeal : Cert.NormmodIdeal.Facts] : Prop :=
  ∀ (m : (ℓ : Loc Cert.NormmodIdeal.nD Cert.NormmodIdeal.τ Cert.NormmodIdeal.sig) → Buf (Elt Ideal) ℓ) (g : Dev Cert.NormmodIdeal.nD → PrngReg), Pre_NormmodIdeal m →
    θ_run (Cert.NormmodIdeal.defs (F := Ideal)) (onTc (τ := Cert.NormmodIdeal.τ) (Cert.NormmodIdeal.main (F := Ideal))) ⟨m, fun _ => 0, g⟩ (fun r => (∀ c : Dev Cert.NormmodIdeal.nD,
      r.2.mem ((c.tc : Thread Cert.NormmodIdeal.nD Cert.NormmodIdeal.τ).loc Cert.NormmodIdeal.main_arg0) = m ((c.tc : Thread Cert.NormmodIdeal.nD Cert.NormmodIdeal.τ).loc Cert.NormmodIdeal.main_arg0)
      ∧ r.2.mem ((c.tc : Thread Cert.NormmodIdeal.nD Cert.NormmodIdeal.τ).loc Cert.NormmodIdeal.main_arg1) = m ((c.tc : Thread Cert.NormmodIdeal.nD Cert.NormmodIdeal.τ).loc Cert.NormmodIdeal.main_arg1)
      ∧ r.2.mem ((c.tc : Thread Cert.NormmodIdeal.nD Cert.NormmodIdeal.τ).loc Cert.NormmodIdeal.main_arg2) = m ((c.tc : Thread Cert.NormmodIdeal.nD Cert.NormmodIdeal.τ).loc Cert.NormmodIdeal.main_arg2))
      ∧ r.2.sem = fun _ => 0)

def quiescent_NormmodRefIdeal [hNormmodRefIdeal : Cert.NormmodRefIdeal.Facts] : Prop :=
  ∀ (m : (ℓ : Loc Cert.NormmodRefIdeal.nD Cert.NormmodRefIdeal.τ Cert.NormmodRefIdeal.sig) → Buf (Elt Ideal) ℓ) (g : Dev Cert.NormmodRefIdeal.nD → PrngReg), Pre_NormmodRefIdeal m →
    θ_run (Cert.NormmodRefIdeal.defs (F := Ideal)) (onTc (τ := Cert.NormmodRefIdeal.τ) (Cert.NormmodRefIdeal.main (F := Ideal))) ⟨m, fun _ => 0, g⟩ (fun r => (∀ c : Dev Cert.NormmodRefIdeal.nD,
      r.2.mem ((c.tc : Thread Cert.NormmodRefIdeal.nD Cert.NormmodRefIdeal.τ).loc Cert.NormmodRefIdeal.main_arg0) = m ((c.tc : Thread Cert.NormmodRefIdeal.nD Cert.NormmodRefIdeal.τ).loc Cert.NormmodRefIdeal.main_arg0)
      ∧ r.2.mem ((c.tc : Thread Cert.NormmodRefIdeal.nD Cert.NormmodRefIdeal.τ).loc Cert.NormmodRefIdeal.main_arg1) = m ((c.tc : Thread Cert.NormmodRefIdeal.nD Cert.NormmodRefIdeal.τ).loc Cert.NormmodRefIdeal.main_arg1)
      ∧ r.2.mem ((c.tc : Thread Cert.NormmodRefIdeal.nD Cert.NormmodRefIdeal.τ).loc Cert.NormmodRefIdeal.main_arg2) = m ((c.tc : Thread Cert.NormmodRefIdeal.nD Cert.NormmodRefIdeal.τ).loc Cert.NormmodRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2)
      ∧ r.2.mem ((c.tc : Thread Cert.GdnPost.nD Cert.GdnPost.τ).loc Cert.GdnPost.main_arg3) = m ((c.tc : Thread Cert.GdnPost.nD Cert.GdnPost.τ).loc Cert.GdnPost.main_arg3))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
      ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3))
      ∧ r.2.sem = fun _ => 0)

def preserves_Kernel_KernelIdeal : Prop :=
  IdealRules.named_const.Statement Cert.KernelIdeal.κ "s" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj1_Proj1Ideal : Prop :=
  True

def algebraic_Proj1Ideal_Proj1RefIdeal [hProj1Ideal : Cert.Proj1Ideal.Facts] [hProj1RefIdeal : Cert.Proj1RefIdeal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.Proj1RefIdeal.nD Cert.Proj1RefIdeal.τ Cert.Proj1RefIdeal.sig) → Buf (Elt Ideal) ℓ) (g' : Dev Cert.Proj1RefIdeal.nD → PrngReg), Pre_Proj1Ideal m →
    (∀ c : Dev Cert.Proj1Ideal.nD,
      m' ((c.tc : Thread Cert.Proj1RefIdeal.nD Cert.Proj1RefIdeal.τ).loc Cert.Proj1RefIdeal.main_arg0) = m ((c.tc : Thread Cert.Proj1Ideal.nD Cert.Proj1Ideal.τ).loc Cert.Proj1Ideal.main_arg0)
      ∧ m' ((c.tc : Thread Cert.Proj1RefIdeal.nD Cert.Proj1RefIdeal.τ).loc Cert.Proj1RefIdeal.main_arg1) = m ((c.tc : Thread Cert.Proj1Ideal.nD Cert.Proj1Ideal.τ).loc Cert.Proj1Ideal.main_arg1)) →
    ∃ (v0 : (c : Dev Cert.Proj1Ideal.nD) → Buf (Elt Ideal) ((c.tc : Thread Cert.Proj1Ideal.nD Cert.Proj1Ideal.τ).loc Cert.Proj1Ideal.main_v2)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v2) = v0 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1))
      ∧ θ_run (Cert.Proj1RefIdeal.defs (F := Ideal)) (onTc (τ := Cert.Proj1RefIdeal.τ) (Cert.Proj1RefIdeal.main (F := Ideal))) ⟨m', fun _ => 0, g'⟩ (fun r => ∀ c : Dev Cert.Proj1RefIdeal.nD,
          r.2.mem ((c.tc : Thread Cert.Proj1RefIdeal.nD Cert.Proj1RefIdeal.τ).loc Cert.Proj1RefIdeal.main_v3) = v0 c
          ∧ r.2.mem ((c.tc : Thread Cert.Proj1RefIdeal.nD Cert.Proj1RefIdeal.τ).loc Cert.Proj1RefIdeal.main_arg0) = m' ((c.tc : Thread Cert.Proj1RefIdeal.nD Cert.Proj1RefIdeal.τ).loc Cert.Proj1RefIdeal.main_arg0)
          ∧ r.2.mem ((c.tc : Thread Cert.Proj1RefIdeal.nD Cert.Proj1RefIdeal.τ).loc Cert.Proj1RefIdeal.main_arg1) = m' ((c.tc : Thread Cert.Proj1RefIdeal.nD Cert.Proj1RefIdeal.τ).loc Cert.Proj1RefIdeal.main_arg1))

def preserves_Proj3_Proj3Ideal : Prop :=
  True

def algebraic_Proj3Ideal_Proj3RefIdeal [hProj3Ideal : Cert.Proj3Ideal.Facts] [hProj3RefIdeal : Cert.Proj3RefIdeal.Facts] : Prop :=
  ∀ (m : (ℓ : Loc Cert.Proj3Ideal.nD Cert.Proj3Ideal.τ Cert.Proj3Ideal.sig) → Buf (Elt Ideal) ℓ) (g : Dev Cert.Proj3Ideal.nD → PrngReg)
    (m' : (ℓ : Loc Cert.Proj3RefIdeal.nD Cert.Proj3RefIdeal.τ Cert.Proj3RefIdeal.sig) → Buf (Elt Ideal) ℓ) (g' : Dev Cert.Proj3RefIdeal.nD → PrngReg), Pre_Proj3Ideal m →
    (∀ c : Dev Cert.Proj3Ideal.nD,
      m' ((c.tc : Thread Cert.Proj3RefIdeal.nD Cert.Proj3RefIdeal.τ).loc Cert.Proj3RefIdeal.main_arg0) = m ((c.tc : Thread Cert.Proj3Ideal.nD Cert.Proj3Ideal.τ).loc Cert.Proj3Ideal.main_arg0)
      ∧ m' ((c.tc : Thread Cert.Proj3RefIdeal.nD Cert.Proj3RefIdeal.τ).loc Cert.Proj3RefIdeal.main_arg1) = m ((c.tc : Thread Cert.Proj3Ideal.nD Cert.Proj3Ideal.τ).loc Cert.Proj3Ideal.main_arg1)) →
    ∃ (v0 : (c : Dev Cert.Proj3Ideal.nD) → Buf (Elt Ideal) ((c.tc : Thread Cert.Proj3Ideal.nD Cert.Proj3Ideal.τ).loc Cert.Proj3Ideal.main_v2)),
      θ_run (Cert.Proj3Ideal.defs (F := Ideal)) (onTc (τ := Cert.Proj3Ideal.τ) (Cert.Proj3Ideal.main (F := Ideal))) ⟨m, fun _ => 0, g⟩ (fun r => ∀ c : Dev Cert.Proj3Ideal.nD,
          r.2.mem ((c.tc : Thread Cert.Proj3Ideal.nD Cert.Proj3Ideal.τ).loc Cert.Proj3Ideal.main_v2) = v0 c
          ∧ r.2.mem ((c.tc : Thread Cert.Proj3Ideal.nD Cert.Proj3Ideal.τ).loc Cert.Proj3Ideal.main_arg0) = m ((c.tc : Thread Cert.Proj3Ideal.nD Cert.Proj3Ideal.τ).loc Cert.Proj3Ideal.main_arg0)
          ∧ r.2.mem ((c.tc : Thread Cert.Proj3Ideal.nD Cert.Proj3Ideal.τ).loc Cert.Proj3Ideal.main_arg1) = m ((c.tc : Thread Cert.Proj3Ideal.nD Cert.Proj3Ideal.τ).loc Cert.Proj3Ideal.main_arg1))
      ∧ θ_run (Cert.Proj3RefIdeal.defs (F := Ideal)) (onTc (τ := Cert.Proj3RefIdeal.τ) (Cert.Proj3RefIdeal.main (F := Ideal))) ⟨m', fun _ => 0, g'⟩ (fun r => ∀ c : Dev Cert.Proj3RefIdeal.nD,
          r.2.mem ((c.tc : Thread Cert.Proj3RefIdeal.nD Cert.Proj3RefIdeal.τ).loc Cert.Proj3RefIdeal.main_v3) = v0 c
          ∧ r.2.mem ((c.tc : Thread Cert.Proj3RefIdeal.nD Cert.Proj3RefIdeal.τ).loc Cert.Proj3RefIdeal.main_arg0) = m' ((c.tc : Thread Cert.Proj3RefIdeal.nD Cert.Proj3RefIdeal.τ).loc Cert.Proj3RefIdeal.main_arg0)
          ∧ r.2.mem ((c.tc : Thread Cert.Proj3RefIdeal.nD Cert.Proj3RefIdeal.τ).loc Cert.Proj3RefIdeal.main_arg1) = m' ((c.tc : Thread Cert.Proj3RefIdeal.nD Cert.Proj3RefIdeal.τ).loc Cert.Proj3RefIdeal.main_arg1))

def preserves_Proj4_Proj4Ideal : Prop :=
  True

def algebraic_Proj4Ideal_Proj4RefIdeal [hProj4Ideal : Cert.Proj4Ideal.Facts] [hProj4RefIdeal : Cert.Proj4RefIdeal.Facts] : Prop :=
  ∀ (m : (ℓ : Loc Cert.Proj4Ideal.nD Cert.Proj4Ideal.τ Cert.Proj4Ideal.sig) → Buf (Elt Ideal) ℓ) (g : Dev Cert.Proj4Ideal.nD → PrngReg)
    (m' : (ℓ : Loc Cert.Proj4RefIdeal.nD Cert.Proj4RefIdeal.τ Cert.Proj4RefIdeal.sig) → Buf (Elt Ideal) ℓ) (g' : Dev Cert.Proj4RefIdeal.nD → PrngReg), Pre_Proj4Ideal m →
    (∀ c : Dev Cert.Proj4Ideal.nD,
      m' ((c.tc : Thread Cert.Proj4RefIdeal.nD Cert.Proj4RefIdeal.τ).loc Cert.Proj4RefIdeal.main_arg0) = m ((c.tc : Thread Cert.Proj4Ideal.nD Cert.Proj4Ideal.τ).loc Cert.Proj4Ideal.main_arg0)
      ∧ m' ((c.tc : Thread Cert.Proj4RefIdeal.nD Cert.Proj4RefIdeal.τ).loc Cert.Proj4RefIdeal.main_arg1) = m ((c.tc : Thread Cert.Proj4Ideal.nD Cert.Proj4Ideal.τ).loc Cert.Proj4Ideal.main_arg1)) →
    ∃ (v0 : (c : Dev Cert.Proj4Ideal.nD) → Buf (Elt Ideal) ((c.tc : Thread Cert.Proj4Ideal.nD Cert.Proj4Ideal.τ).loc Cert.Proj4Ideal.main_v2)),
      θ_run (Cert.Proj4Ideal.defs (F := Ideal)) (onTc (τ := Cert.Proj4Ideal.τ) (Cert.Proj4Ideal.main (F := Ideal))) ⟨m, fun _ => 0, g⟩ (fun r => ∀ c : Dev Cert.Proj4Ideal.nD,
          r.2.mem ((c.tc : Thread Cert.Proj4Ideal.nD Cert.Proj4Ideal.τ).loc Cert.Proj4Ideal.main_v2) = v0 c
          ∧ r.2.mem ((c.tc : Thread Cert.Proj4Ideal.nD Cert.Proj4Ideal.τ).loc Cert.Proj4Ideal.main_arg0) = m ((c.tc : Thread Cert.Proj4Ideal.nD Cert.Proj4Ideal.τ).loc Cert.Proj4Ideal.main_arg0)
          ∧ r.2.mem ((c.tc : Thread Cert.Proj4Ideal.nD Cert.Proj4Ideal.τ).loc Cert.Proj4Ideal.main_arg1) = m ((c.tc : Thread Cert.Proj4Ideal.nD Cert.Proj4Ideal.τ).loc Cert.Proj4Ideal.main_arg1))
      ∧ θ_run (Cert.Proj4RefIdeal.defs (F := Ideal)) (onTc (τ := Cert.Proj4RefIdeal.τ) (Cert.Proj4RefIdeal.main (F := Ideal))) ⟨m', fun _ => 0, g'⟩ (fun r => ∀ c : Dev Cert.Proj4RefIdeal.nD,
          r.2.mem ((c.tc : Thread Cert.Proj4RefIdeal.nD Cert.Proj4RefIdeal.τ).loc Cert.Proj4RefIdeal.main_v3) = v0 c
          ∧ r.2.mem ((c.tc : Thread Cert.Proj4RefIdeal.nD Cert.Proj4RefIdeal.τ).loc Cert.Proj4RefIdeal.main_arg0) = m' ((c.tc : Thread Cert.Proj4RefIdeal.nD Cert.Proj4RefIdeal.τ).loc Cert.Proj4RefIdeal.main_arg0)
          ∧ r.2.mem ((c.tc : Thread Cert.Proj4RefIdeal.nD Cert.Proj4RefIdeal.τ).loc Cert.Proj4RefIdeal.main_arg1) = m' ((c.tc : Thread Cert.Proj4RefIdeal.nD Cert.Proj4RefIdeal.τ).loc Cert.Proj4RefIdeal.main_arg1))

def preserves_Proj6_Proj6Ideal : Prop :=
  True

def algebraic_Proj6Ideal_Proj6RefIdeal [hProj6Ideal : Cert.Proj6Ideal.Facts] [hProj6RefIdeal : Cert.Proj6RefIdeal.Facts] : Prop :=
  ∀ (m : (ℓ : Loc Cert.Proj6Ideal.nD Cert.Proj6Ideal.τ Cert.Proj6Ideal.sig) → Buf (Elt Ideal) ℓ) (g : Dev Cert.Proj6Ideal.nD → PrngReg)
    (m' : (ℓ : Loc Cert.Proj6RefIdeal.nD Cert.Proj6RefIdeal.τ Cert.Proj6RefIdeal.sig) → Buf (Elt Ideal) ℓ) (g' : Dev Cert.Proj6RefIdeal.nD → PrngReg), Pre_Proj6Ideal m →
    (∀ c : Dev Cert.Proj6Ideal.nD,
      m' ((c.tc : Thread Cert.Proj6RefIdeal.nD Cert.Proj6RefIdeal.τ).loc Cert.Proj6RefIdeal.main_arg0) = m ((c.tc : Thread Cert.Proj6Ideal.nD Cert.Proj6Ideal.τ).loc Cert.Proj6Ideal.main_arg0)
      ∧ m' ((c.tc : Thread Cert.Proj6RefIdeal.nD Cert.Proj6RefIdeal.τ).loc Cert.Proj6RefIdeal.main_arg1) = m ((c.tc : Thread Cert.Proj6Ideal.nD Cert.Proj6Ideal.τ).loc Cert.Proj6Ideal.main_arg1)) →
    ∃ (v0 : (c : Dev Cert.Proj6Ideal.nD) → Buf (Elt Ideal) ((c.tc : Thread Cert.Proj6Ideal.nD Cert.Proj6Ideal.τ).loc Cert.Proj6Ideal.main_v2)),
      θ_run (Cert.Proj6Ideal.defs (F := Ideal)) (onTc (τ := Cert.Proj6Ideal.τ) (Cert.Proj6Ideal.main (F := Ideal))) ⟨m, fun _ => 0, g⟩ (fun r => ∀ c : Dev Cert.Proj6Ideal.nD,
          r.2.mem ((c.tc : Thread Cert.Proj6Ideal.nD Cert.Proj6Ideal.τ).loc Cert.Proj6Ideal.main_v2) = v0 c
          ∧ r.2.mem ((c.tc : Thread Cert.Proj6Ideal.nD Cert.Proj6Ideal.τ).loc Cert.Proj6Ideal.main_arg0) = m ((c.tc : Thread Cert.Proj6Ideal.nD Cert.Proj6Ideal.τ).loc Cert.Proj6Ideal.main_arg0)
          ∧ r.2.mem ((c.tc : Thread Cert.Proj6Ideal.nD Cert.Proj6Ideal.τ).loc Cert.Proj6Ideal.main_arg1) = m ((c.tc : Thread Cert.Proj6Ideal.nD Cert.Proj6Ideal.τ).loc Cert.Proj6Ideal.main_arg1))
      ∧ θ_run (Cert.Proj6RefIdeal.defs (F := Ideal)) (onTc (τ := Cert.Proj6RefIdeal.τ) (Cert.Proj6RefIdeal.main (F := Ideal))) ⟨m', fun _ => 0, g'⟩ (fun r => ∀ c : Dev Cert.Proj6RefIdeal.nD,
          r.2.mem ((c.tc : Thread Cert.Proj6RefIdeal.nD Cert.Proj6RefIdeal.τ).loc Cert.Proj6RefIdeal.main_v3) = v0 c
          ∧ r.2.mem ((c.tc : Thread Cert.Proj6RefIdeal.nD Cert.Proj6RefIdeal.τ).loc Cert.Proj6RefIdeal.main_arg0) = m' ((c.tc : Thread Cert.Proj6RefIdeal.nD Cert.Proj6RefIdeal.τ).loc Cert.Proj6RefIdeal.main_arg0)
          ∧ r.2.mem ((c.tc : Thread Cert.Proj6RefIdeal.nD Cert.Proj6RefIdeal.τ).loc Cert.Proj6RefIdeal.main_arg1) = m' ((c.tc : Thread Cert.Proj6RefIdeal.nD Cert.Proj6RefIdeal.τ).loc Cert.Proj6RefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v9) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Normmod_NormmodIdeal : Prop :=
  True

def algebraic_NormmodIdeal_NormmodRefIdeal [hNormmodIdeal : Cert.NormmodIdeal.Facts] [hNormmodRefIdeal : Cert.NormmodRefIdeal.Facts] : Prop :=
  ∀ (m : (ℓ : Loc Cert.NormmodIdeal.nD Cert.NormmodIdeal.τ Cert.NormmodIdeal.sig) → Buf (Elt Ideal) ℓ) (g : Dev Cert.NormmodIdeal.nD → PrngReg)
    (m' : (ℓ : Loc Cert.NormmodRefIdeal.nD Cert.NormmodRefIdeal.τ Cert.NormmodRefIdeal.sig) → Buf (Elt Ideal) ℓ) (g' : Dev Cert.NormmodRefIdeal.nD → PrngReg), Pre_NormmodIdeal m →
    (∀ c : Dev Cert.NormmodIdeal.nD,
      m' ((c.tc : Thread Cert.NormmodRefIdeal.nD Cert.NormmodRefIdeal.τ).loc Cert.NormmodRefIdeal.main_arg0) = m ((c.tc : Thread Cert.NormmodIdeal.nD Cert.NormmodIdeal.τ).loc Cert.NormmodIdeal.main_arg0)
      ∧ m' ((c.tc : Thread Cert.NormmodRefIdeal.nD Cert.NormmodRefIdeal.τ).loc Cert.NormmodRefIdeal.main_arg1) = m ((c.tc : Thread Cert.NormmodIdeal.nD Cert.NormmodIdeal.τ).loc Cert.NormmodIdeal.main_arg1)
      ∧ m' ((c.tc : Thread Cert.NormmodRefIdeal.nD Cert.NormmodRefIdeal.τ).loc Cert.NormmodRefIdeal.main_arg2) = m ((c.tc : Thread Cert.NormmodIdeal.nD Cert.NormmodIdeal.τ).loc Cert.NormmodIdeal.main_arg2)) →
    ∃ (v0 : (c : Dev Cert.NormmodIdeal.nD) → Buf (Elt Ideal) ((c.tc : Thread Cert.NormmodIdeal.nD Cert.NormmodIdeal.τ).loc Cert.NormmodIdeal.main_v3)),
      θ_run (Cert.NormmodIdeal.defs (F := Ideal)) (onTc (τ := Cert.NormmodIdeal.τ) (Cert.NormmodIdeal.main (F := Ideal))) ⟨m, fun _ => 0, g⟩ (fun r => ∀ c : Dev Cert.NormmodIdeal.nD,
          r.2.mem ((c.tc : Thread Cert.NormmodIdeal.nD Cert.NormmodIdeal.τ).loc Cert.NormmodIdeal.main_v3) = v0 c
          ∧ r.2.mem ((c.tc : Thread Cert.NormmodIdeal.nD Cert.NormmodIdeal.τ).loc Cert.NormmodIdeal.main_arg0) = m ((c.tc : Thread Cert.NormmodIdeal.nD Cert.NormmodIdeal.τ).loc Cert.NormmodIdeal.main_arg0)
          ∧ r.2.mem ((c.tc : Thread Cert.NormmodIdeal.nD Cert.NormmodIdeal.τ).loc Cert.NormmodIdeal.main_arg1) = m ((c.tc : Thread Cert.NormmodIdeal.nD Cert.NormmodIdeal.τ).loc Cert.NormmodIdeal.main_arg1)
          ∧ r.2.mem ((c.tc : Thread Cert.NormmodIdeal.nD Cert.NormmodIdeal.τ).loc Cert.NormmodIdeal.main_arg2) = m ((c.tc : Thread Cert.NormmodIdeal.nD Cert.NormmodIdeal.τ).loc Cert.NormmodIdeal.main_arg2))
      ∧ θ_run (Cert.NormmodRefIdeal.defs (F := Ideal)) (onTc (τ := Cert.NormmodRefIdeal.τ) (Cert.NormmodRefIdeal.main (F := Ideal))) ⟨m', fun _ => 0, g'⟩ (fun r => ∀ c : Dev Cert.NormmodRefIdeal.nD,
          r.2.mem ((c.tc : Thread Cert.NormmodRefIdeal.nD Cert.NormmodRefIdeal.τ).loc Cert.NormmodRefIdeal.main_v26) = v0 c
          ∧ r.2.mem ((c.tc : Thread Cert.NormmodRefIdeal.nD Cert.NormmodRefIdeal.τ).loc Cert.NormmodRefIdeal.main_arg0) = m' ((c.tc : Thread Cert.NormmodRefIdeal.nD Cert.NormmodRefIdeal.τ).loc Cert.NormmodRefIdeal.main_arg0)
          ∧ r.2.mem ((c.tc : Thread Cert.NormmodRefIdeal.nD Cert.NormmodRefIdeal.τ).loc Cert.NormmodRefIdeal.main_arg1) = m' ((c.tc : Thread Cert.NormmodRefIdeal.nD Cert.NormmodRefIdeal.τ).loc Cert.NormmodRefIdeal.main_arg1)
          ∧ r.2.mem ((c.tc : Thread Cert.NormmodRefIdeal.nD Cert.NormmodRefIdeal.τ).loc Cert.NormmodRefIdeal.main_arg2) = m' ((c.tc : Thread Cert.NormmodRefIdeal.nD Cert.NormmodRefIdeal.τ).loc Cert.NormmodRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v7) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)
      ∧ m' ((c.tc : Thread Cert.GdnPostRefIdeal.nD Cert.GdnPostRefIdeal.τ).loc Cert.GdnPostRefIdeal.main_arg3) = m ((c.tc : Thread Cert.GdnPostIdeal.nD Cert.GdnPostIdeal.τ).loc Cert.GdnPostIdeal.main_arg3)) →
    ∃ (v0 : (c : Dev Cert.GdnPostIdeal.nD) → Buf (Elt Ideal) ((c.tc : Thread Cert.GdnPostIdeal.nD Cert.GdnPostIdeal.τ).loc Cert.GdnPostIdeal.main_v1)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v1) = v0 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
          ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v20) = v0 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2)
          ∧ r.2.mem ((c.tc : Thread Cert.GdnPostRefIdeal.nD Cert.GdnPostRefIdeal.τ).loc Cert.GdnPostRefIdeal.main_arg3) = m' ((c.tc : Thread Cert.GdnPostRefIdeal.nD Cert.GdnPostRefIdeal.τ).loc Cert.GdnPostRefIdeal.main_arg3))

def Claim : Prop :=
  ∃ (hKernel : Cert.Kernel.Facts) (hKernelIdeal : Cert.KernelIdeal.Facts) (hReferenceIdeal : Cert.ReferenceIdeal.Facts) (hProj1 : Cert.Proj1.Facts) (hProj1Ideal : Cert.Proj1Ideal.Facts) (hProj1RefIdeal : Cert.Proj1RefIdeal.Facts) (hProj3 : Cert.Proj3.Facts) (hProj3Ideal : Cert.Proj3Ideal.Facts) (hProj3RefIdeal : Cert.Proj3RefIdeal.Facts) (hProj4 : Cert.Proj4.Facts) (hProj4Ideal : Cert.Proj4Ideal.Facts) (hProj4RefIdeal : Cert.Proj4RefIdeal.Facts) (hProj6 : Cert.Proj6.Facts) (hProj6Ideal : Cert.Proj6Ideal.Facts) (hProj6RefIdeal : Cert.Proj6RefIdeal.Facts) (hExperts : Cert.Experts.Facts) (hExpertsIdeal : Cert.ExpertsIdeal.Facts) (hExpertsRefIdeal : Cert.ExpertsRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hNormmod : Cert.Normmod.Facts) (hNormmodIdeal : Cert.NormmodIdeal.Facts) (hNormmodRefIdeal : Cert.NormmodRefIdeal.Facts) (hAda : Cert.Ada.Facts) (hAdaIdeal : Cert.AdaIdeal.Facts) (hAdaRefIdeal : Cert.AdaRefIdeal.Facts) (hGdnPost : Cert.GdnPost.Facts) (hGdnPostIdeal : Cert.GdnPostIdeal.Facts) (hGdnPostRefIdeal : Cert.GdnPostRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj1 (hProj1 := hProj1)
    ∧ quiescent_Proj1Ideal (hProj1Ideal := hProj1Ideal)
    ∧ quiescent_Proj1RefIdeal (hProj1RefIdeal := hProj1RefIdeal)
    ∧ quiescent_Proj3 (hProj3 := hProj3)
    ∧ quiescent_Proj3Ideal (hProj3Ideal := hProj3Ideal)
    ∧ quiescent_Proj3RefIdeal (hProj3RefIdeal := hProj3RefIdeal)
    ∧ quiescent_Proj4 (hProj4 := hProj4)
    ∧ quiescent_Proj4Ideal (hProj4Ideal := hProj4Ideal)
    ∧ quiescent_Proj4RefIdeal (hProj4RefIdeal := hProj4RefIdeal)
    ∧ quiescent_Proj6 (hProj6 := hProj6)
    ∧ quiescent_Proj6Ideal (hProj6Ideal := hProj6Ideal)
    ∧ quiescent_Proj6RefIdeal (hProj6RefIdeal := hProj6RefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Normmod (hNormmod := hNormmod)
    ∧ quiescent_NormmodIdeal (hNormmodIdeal := hNormmodIdeal)
    ∧ quiescent_NormmodRefIdeal (hNormmodRefIdeal := hNormmodRefIdeal)
    ∧ quiescent_Ada (hAda := hAda)
    ∧ quiescent_AdaIdeal (hAdaIdeal := hAdaIdeal)
    ∧ quiescent_AdaRefIdeal (hAdaRefIdeal := hAdaRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj1_Proj1Ideal
    ∧ algebraic_Proj1Ideal_Proj1RefIdeal (hProj1Ideal := hProj1Ideal) (hProj1RefIdeal := hProj1RefIdeal)
    ∧ preserves_Proj3_Proj3Ideal
    ∧ algebraic_Proj3Ideal_Proj3RefIdeal (hProj3Ideal := hProj3Ideal) (hProj3RefIdeal := hProj3RefIdeal)
    ∧ preserves_Proj4_Proj4Ideal
    ∧ algebraic_Proj4Ideal_Proj4RefIdeal (hProj4Ideal := hProj4Ideal) (hProj4RefIdeal := hProj4RefIdeal)
    ∧ preserves_Proj6_Proj6Ideal
    ∧ algebraic_Proj6Ideal_Proj6RefIdeal (hProj6Ideal := hProj6Ideal) (hProj6RefIdeal := hProj6RefIdeal)
    ∧ preserves_Experts_ExpertsIdeal
    ∧ algebraic_ExpertsIdeal_ExpertsRefIdeal (hExpertsIdeal := hExpertsIdeal) (hExpertsRefIdeal := hExpertsRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Normmod_NormmodIdeal
    ∧ algebraic_NormmodIdeal_NormmodRefIdeal (hNormmodIdeal := hNormmodIdeal) (hNormmodRefIdeal := hNormmodRefIdeal)
    ∧ preserves_Ada_AdaIdeal
    ∧ algebraic_AdaIdeal_AdaRefIdeal (hAdaIdeal := hAdaIdeal) (hAdaRefIdeal := hAdaRefIdeal)
    ∧ preserves_GdnPost_GdnPostIdeal
    ∧ algebraic_GdnPostIdeal_GdnPostRefIdeal (hGdnPostIdeal := hGdnPostIdeal) (hGdnPostRefIdeal := hGdnPostRefIdeal)
-- ==== Pre_finite.lean ====
abbrev S16x2048x3072 : Shape := ⟨3, ![16, 2048, 3072]⟩
abbrev S16x256x3072 : Shape := ⟨3, ![16, 256, 3072]⟩
abbrev S4x64 : Shape := ⟨2, ![4, 64]⟩
abbrev S128 : Shape := ⟨1, ![128]⟩
abbrev S1x1 : Shape := ⟨2, ![1, 1]⟩
abbrev S_ : Shape := ⟨0, ![]⟩
abbrev S16x256x2048 : Shape := ⟨3, ![16, 256, 2048]⟩

class Facts : Prop where
  bcast_S_S16x2048x3072 : S_.BroadcastsInDim S16x2048x3072 (![] : Fin 0 → Fin S16x2048x3072.rank)
  slices_S16x256x3072_S16x256x2048_0_0_1024 : S16x256x3072.Slices ![0, 0, 1024] S16x256x2048
  bcast_S_S16x256x2048 : S_.BroadcastsInDim S16x256x2048 (![] : Fin 0 → Fin S16x256x2048.rank)
  bcast_S_S4x64 : S_.BroadcastsInDim S4x64 (![] : Fin 0 → Fin S4x64.rank)
  bcast_S_S1x1 : S_.BroadcastsInDim S1x1 (![] : Fin 0 → Fin S1x1.rank)

variable [Facts]

def fn {F : FTy → Type} [FloatOps F] (main_arg0 : FVec F S16x2048x3072 .f32) (main_arg1 : FVec F S16x256x3072 .f32) (main_arg2 : FVec F S4x64 .f32) (main_arg3 : FVec F S128 .f32) (main_arg4 : FVec F S1x1 .f32) : IVec S16x2048x3072 1 × IVec S16x256x2048 1 × IVec S4x64 1 × IVec S1x1 1 :=
  let main_v0 : FVec F S16x2048x3072 .f32 := Host.absf main_arg0
  let main_cst : FVec F S_ .f32 := constant S_ .f32 0x7F800000#32
  let main_v1 : FVec F S16x2048x3072 .f32 := broadcastInDim S16x2048x3072 ![] bcast_S_S16x2048x3072 main_cst
  let main_v2 : IVec S16x2048x3072 1 := cmpf .olt main_v0 main_v1
  let main_v3 : FVec F S16x256x2048 .f32 := (extractStridedSlice S16x256x2048 ![0, 0, 1024] · slices_S16x256x3072_S16x256x2048_0_0_1024) main_arg1
  let main_v4 : FVec F S16x256x2048 .f32 := Host.absf main_v3
  let main_cst_0 : FVec F S_ .f32 := constant S_ .f32 0x7F800000#32
  let main_v5 : FVec F S16x256x2048 .f32 := broadcastInDim S16x256x2048 ![] bcast_S_S16x256x2048 main_cst_0
  let main_v6 : IVec S16x256x2048 1 := cmpf .olt main_v4 main_v5
  let main_v7 : FVec F S4x64 .f32 := Host.absf main_arg2
  let main_cst_1 : FVec F S_ .f32 := constant S_ .f32 0x7F800000#32
  let main_v8 : FVec F S4x64 .f32 := broadcastInDim S4x64 ![] bcast_S_S4x64 main_cst_1
  let main_v9 : IVec S4x64 1 := cmpf .olt main_v7 main_v8
  let main_v10 : FVec F S1x1 .f32 := Host.absf main_arg4
  let main_cst_2 : FVec F S_ .f32 := constant S_ .f32 0x7F800000#32
  let main_v11 : FVec F S1x1 .f32 := broadcastInDim S1x1 ![] bcast_S_S1x1 main_cst_2
  let main_v12 : IVec S1x1 1 := cmpf .olt main_v10 main_v11
  (main_v2, main_v6, main_v9, main_v12)
-- ==== Kernel.lean ====
abbrev S16x2048x3072 : Shape := ⟨3, ![16, 2048, 3072]⟩
abbrev S16x256x3072 : Shape := ⟨3, ![16, 256, 3072]⟩
abbrev S4x64 : Shape := ⟨2, ![4, 64]⟩
abbrev S128 : Shape := ⟨1, ![128]⟩
abbrev S1x1 : Shape := ⟨2, ![1, 1]⟩
abbrev S1x128 : Shape := ⟨2, ![1, 128]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S16x2048x1024 : Shape := ⟨3, ![16, 2048, 1024]⟩
abbrev S1x2048x128 : Shape := ⟨3, ![1, 2048, 128]⟩
abbrev S1x256x128 : Shape := ⟨3, ![1, 256, 128]⟩
abbrev S2304x128 : Shape := ⟨2, ![2304, 128]⟩
abbrev S2304x256 : Shape := ⟨2, ![2304, 256]⟩
abbrev S256x128 : Shape := ⟨2, ![256, 128]⟩
abbrev S1x64 : Shape := ⟨2, ![1, 64]⟩
abbrev S1 : Shape := ⟨1, ![1]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 77
  | .vmem => 21
  | .smem => 0
  | _ => 0

abbrev bufTy : (tb : Table) → Fin (tcTables nBuf tb) → BufTy
  | .hbm, ⟨0, _⟩ => ⟨S16x2048x3072, .f32⟩
  | .hbm, ⟨1, _⟩ => ⟨S16x256x3072, .f32⟩
  | .hbm, ⟨2, _⟩ => ⟨S4x64, .f32⟩
  | .hbm, ⟨3, _⟩ => ⟨S128, .f32⟩
  | .hbm, ⟨4, _⟩ => ⟨S1x1, .f32⟩
  | .hbm, ⟨5, _⟩ => ⟨S1x128, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S2048x1, .f32⟩
  | .hbm, ⟨58, _⟩ => ⟨S1x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x1, .f32⟩
  | .hbm, ⟨63, _⟩ => ⟨S1x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S1x2048x1x32, .f32⟩
  | .hbm, ⟨71, _⟩ => ⟨S1x2048x4x32, .f32⟩
  | .hbm, ⟨72, _⟩ => ⟨S2048x128, .f32⟩
  | .hbm, ⟨73, _⟩ => ⟨S2048x32, .f32⟩
  | .hbm, ⟨74, _⟩ => ⟨S2048x32, .f32⟩
  | .hbm, ⟨75, _⟩ => ⟨S2048x128, .f32⟩
  | .hbm, ⟨76, _⟩ => ⟨S16x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S4x64, .f32⟩
  | .local _ .vmem, ⟨15, _⟩ => ⟨S1x1, .f32⟩
  | .local _ .vmem, ⟨16, _⟩ => ⟨S1x128, .f32⟩
  | .local _ .vmem, ⟨17, _⟩ => ⟨S1x2048x128, .bf16⟩
  | .local _ .vmem, ⟨18, _⟩ => ⟨S1x2048x128, .bf16⟩
  | .local _ .vmem, ⟨19, _⟩ => ⟨S2304x128, .bf16⟩
  | .local _ .vmem, ⟨20, _⟩ => ⟨S2304x256, .bf16⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst : Ref sig .tc := ⟨.hbm, 51, rfl⟩
abbrev main_v8 : Ref sig .tc := ⟨.hbm, 52, rfl⟩
abbrev main_v9 : Ref sig .tc := ⟨.hbm, 53, rfl⟩
abbrev main_cst_1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "s" => some (((8 * (Real.log 2))⁻¹ : ℝ) : EReal)
  | _ => none
-- ==== ReferenceIdeal.lean ====
abbrev S16x2048x3072 : Shape := ⟨3, ![16, 2048, 3072]⟩
abbrev S16x256x3072 : Shape := ⟨3, ![16, 256, 3072]⟩
abbrev S4x64 : Shape := ⟨2, ![4, 64]⟩
abbrev S128 : Shape := ⟨1, ![128]⟩
abbrev S1x1 : Shape := ⟨2, ![1, 1]⟩
abbrev S_ : Shape := ⟨0, ![]⟩
abbrev S16x2048x1024 : Shape := ⟨3, ![16, 2048, 1024]⟩
abbrev S16x256x1024 : Shape := ⟨3, ![16, 256, 1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16x2048x8x2x64 : Shape := ⟨5, ![16, 2048, 8, 2, 64]⟩
abbrev S1x2048x1x1x32 : Shape := ⟨5, ![1, 2048, 1, 1, 32]⟩
abbrev S16x2048x8x2x32 : Shape := ⟨5, ![16, 2048, 8, 2, 32]⟩
abbrev S1x64 : Shape := ⟨2, ![1, 64]⟩
abbrev S64 : Shape := ⟨1, ![64]⟩
abbrev S16x256x8x2x64 : Shape := ⟨5, ![16, 256, 8, 2, 64]⟩
abbrev S16x2304x8x2x64 : Shape := ⟨5, ![16, 2304, 8, 2, 64]⟩
abbrev S16x256x8x128 : Shape := ⟨4, ![16, 256, 8, 128]⟩
abbrev S16x2048x8x128 : Shape := ⟨4, ![16, 2048, 8, 128]⟩
abbrev S16x2304x8x128 : Shape := ⟨4, ![16, 2304, 8, 128]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 180
  | .vmem => 0
  | .smem => 0
  | _ => 0

abbrev hbmTy0_0 (i : Nat) : BufTy := match i % 128 with
  | 0 => ⟨S16x2048x3072, .f32⟩
  | 1 => ⟨S16x256x3072, .f32⟩
  | 2 => ⟨S4x64, .f32⟩
  | 3 => ⟨S128, .f32⟩
  | 4 => ⟨S1x1, .f32⟩
  | 5 => ⟨S_, .f32⟩
  | 6 => ⟨S16x2048x1024, .f32⟩
  | 7 => ⟨S16x2048x1024, .f32⟩
  | 8 => ⟨S16x2048x1024, .f32⟩
  | 9 => ⟨S16x256x1024, .f32⟩
  | 10 => ⟨S16x256x1024, .f32⟩
  | 11 => ⟨S16x256x1024, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i1⟩
  | 46 => ⟨S_, .i32⟩
  | 47 => ⟨S_, .i1⟩
  | 48 => ⟨S2048, .i1⟩
  | 49 => ⟨S2048, .i1⟩
  | 50 => ⟨S2048, .i1⟩
  | 51 => ⟨S2048, .i32⟩
  | 52 => ⟨S2048, .i32⟩
  | 53 => ⟨S2048, .i32⟩
  | 54 => ⟨S2048, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x32, .f32⟩
  | 74 => ⟨S2048x32, .f32⟩
  | 75 => ⟨S2048x32, .f32⟩
  | 76 => ⟨S16x2048x8x2x64, .f32⟩
  | 77 => ⟨S1x2048x1x1x32, .f32⟩
  | 78 => ⟨S1x2048x1x1x32, .f32⟩
  | 79 => ⟨S16x2048x8x2x32, .f32⟩
  | 80 => ⟨S16x2048x8x2x32, .f32⟩
  | 81 => ⟨S16x2048x8x2x32, .f32⟩
  | 82 => ⟨S16x2048x8x2x32, .f32⟩
  | 83 => ⟨S16x2048x8x2x32, .f32⟩
  | 84 => ⟨S16x2048x8x2x32, .f32⟩
  | 85 => ⟨S16x2048x8x2x32, .f32⟩
  | 86 => ⟨S16x2048x8x2x32, .f32⟩
  | 87 => ⟨S16x2048x8x2x32, .f32⟩
  | 88 => ⟨S16x2048x8x2x32, .f32⟩
  | 89 => ⟨S16x2048x8x2x32, .f32⟩
  | 90 => ⟨S16x2048x8x2x32, .f32⟩
  | 91 => ⟨S16x2048x8x2x64, .f32⟩
  | 92 => ⟨S16x2048x8x2x64, .f32⟩
  | 93 => ⟨S1x2048x1x1x32, .f32⟩
  | 94 => ⟨S1x2048x1x1x32, .f32⟩
  | 95 => ⟨S16x2048x8x2x32, .f32⟩
  | 96 => ⟨S16x2048x8x2x32, .f32⟩
  | 97 => ⟨S16x2048x8x2x32, .f32⟩
  | 98 => ⟨S16x2048x8x2x32, .f32⟩
  | 99 => ⟨S16x2048x8x2x32, .f32⟩
  | 100 => ⟨S16x2048x8x2x32, .f32⟩
  | 101 => ⟨S16x2048x8x2x32, .f32⟩
  | 102 => ⟨S16x2048x8x2x32, .f32⟩
  | 103 => ⟨S16x2048x8x2x32, .f32⟩
  | 104 => ⟨S16x2048x8x2x32, .f32⟩
  | 105 => ⟨S16x2048x8x2x32, .f32⟩
  | 106 => ⟨S16x2048x8x2x32, .f32⟩
  | 107 => ⟨S16x2048x8x2x64, .f32⟩
  | 108 => ⟨S1x64, .f32⟩
  | 109 => ⟨S64, .f32⟩
  | 110 => ⟨S1x64, .f32⟩
  | 111 => ⟨S64, .f32⟩
  | 112 => ⟨S64, .f32⟩
  | 113 => ⟨S_, .f32⟩
  | 114 => ⟨S_, .f32⟩
  | 115 => ⟨S_, .f32⟩
  | 116 => ⟨S1x64, .f32⟩
  | 117 => ⟨S64, .f32⟩
  | 118 => ⟨S1x64, .f32⟩
  | 119 => ⟨S64, .f32⟩
  | 120 => ⟨S64, .f32⟩
  | 121 => ⟨S_, .f32⟩
  | 122 => ⟨S_, .f32⟩
  | 123 => ⟨S_, .f32⟩
  | 124 => ⟨S_, .f32⟩
  | 125 => ⟨S_, .f32⟩
  | 126 => ⟨S16x256x8x2x64, .f32⟩
  | 127 => ⟨S16x2304x8x2x64, .f32⟩
  | _ => ⟨S16x2048x3072, .f32⟩

abbrev hbmTy0_1 (i : Nat) : BufTy := match i % 128 with
  | 0 => ⟨S16x256x8x128, .f32⟩
  | 1 => ⟨S16x2048x8x128, .f32⟩
  | 2 => ⟨S16x2304x8x128, .f32⟩
  | 3 => ⟨S16x8x2x2048x2304, .f32⟩
  | 4 => ⟨S_, .f32⟩
  | 5 => ⟨S16x8x2x2048x2304, .f32⟩
  | 6 => ⟨S16x8x2x2048x2304, .f32⟩
  | 7 => ⟨S_, .f32⟩
  | 8 => ⟨S16x8x2x2048, .f32⟩
  | 9 => ⟨S_, .f32⟩
  | 10 => ⟨S16x8x2x2048, .f32⟩
  | 11 => ⟨S16x8x2x2048, .f32⟩
  | 12 => ⟨S16x8x2x2048x1, .f32⟩
  | 13 => ⟨S16x8x2x2048x2304, .f32⟩
  | 14 => ⟨S16x8x2x2048x2304, .f32⟩
  | 15 => ⟨S16x8x2x2048x2304, .f32⟩
  | 16 => ⟨S_, .f32⟩
  | 17 => ⟨S16x8x2x2048, .f32⟩
  | 18 => ⟨S16x8x2x2048x1, .f32⟩
  | 19 => ⟨S16x8x2x2048x2304, .f32⟩
  | 20 => ⟨S16x8x2x2048x2304, .f32⟩
  | 21 => ⟨S16x8x1x2048x2304, .f32⟩
  | 22 => ⟨S16x8x2048x2304, .f32⟩
  | 23 => ⟨S16x8x1x2048x2304, .f32⟩
  | 24 => ⟨S16x8x2048x2304, .f32⟩
  | 25 => ⟨S16x8x2048x2304, .f32⟩
  | 26 => ⟨S16x8x2048x2304, .f32⟩
  | 27 => ⟨S16x8x2048x2304, .f32⟩
  | 28 => ⟨S16x8x128x2048, .f32⟩
  | 29 => ⟨S16x2048x8x128, .f32⟩
  | 30 => ⟨S16x2048x8x128, .f32⟩
  | 31 => ⟨S_, .f32⟩
  | 32 => ⟨S16x2048x8, .f32⟩
  | 33 => ⟨S16x2048x8x1, .f32⟩
  | 34 => ⟨S_, .f32⟩
  | 35 => ⟨S16x2048x8x1, .f32⟩
  | 36 => ⟨S16x2048x8x1, .f32⟩
  | 37 => ⟨S_, .f32⟩
  | 38 => ⟨S16x2048x8x1, .f32⟩
  | 39 => ⟨S16x2048x8x1, .f32⟩
  | 40 => ⟨S16x2048x8x1, .f32⟩
  | 41 => ⟨S16x2048x8x128, .f32⟩
  | 42 => ⟨S16x2048x8x128, .f32⟩
  | 43 => ⟨S1x1x1x128, .f32⟩
  | 44 => ⟨S16x2048x8x128, .f32⟩
  | 45 => ⟨S16x2048x8x128, .f32⟩
  | 46 => ⟨S_, .f32⟩
  | 47 => ⟨S_, .f32⟩
  | 48 => ⟨S16x2048x8x128, .f32⟩
  | 49 => ⟨S16x2048x8x128, .f32⟩
  | 50 => ⟨S16x2048x1024, .f32⟩
  | 51 => ⟨S16x2048x1024, .bf16⟩
  | _ => ⟨S16x2048x3072, .f32⟩

abbrev hbmTy (i : Nat) : BufTy := match i / 128 with
  | 0 => hbmTy0_0 i
  | 1 => hbmTy0_1 i
  | _ => ⟨S16x2048x3072, .f32⟩

abbrev bufTy : (tb : Table) → Fin (tcTables nBuf tb) → BufTy
  | .hbm, ⟨i, _⟩ => hbmTy i
  | _, _ => ⟨S16x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst : Ref sig .tc := ⟨.hbm, 57, rfl⟩
abbrev main_v14 : Ref sig .tc := ⟨.hbm, 58, rfl⟩
abbrev main_v15 : Ref sig .tc := ⟨.hbm, 59, rfl⟩
abbrev main_cst_1 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_2 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_3 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_4 : Ref sig .tc := ⟨.hbm, 132, rfl⟩
abbrev main_v85 : Ref sig .tc := ⟨.hbm, 133, rfl⟩
abbrev main_v86 : Ref sig .tc := ⟨.hbm, 134, rfl⟩
abbrev main_cst_5 : Ref sig .tc := ⟨.hbm, 135, rfl⟩
abbrev main_v87 : Ref sig .tc := ⟨.hbm, 136, rfl⟩
abbrev main_cst_6 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_7 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_8 : Ref sig .tc := ⟨.hbm, 159, rfl⟩
abbrev main_v108 : Ref sig .tc := ⟨.hbm, 160, rfl⟩
abbrev main_v109 : Ref sig .tc := ⟨.hbm, 161, rfl⟩
abbrev main_cst_9 : Ref sig .tc := ⟨.hbm, 162, rfl⟩
abbrev main_v110 : Ref sig .tc := ⟨.hbm, 163, rfl⟩
abbrev main_v111 : Ref sig .tc := ⟨.hbm, 164, rfl⟩
abbrev main_cst_10 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_11 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩

abbrev nD : Nat := 1
abbrev τ : Topo := Topo.v7x

variable {F : FTy → Type} [FloatOps F]
-- ==== Proj1.lean ====
abbrev S16x2048x2048 : Shape := ⟨3, ![16, 2048, 2048]⟩
abbrev S2048x128 : Shape := ⟨2, ![2048, 128]⟩
abbrev S1x32768x2048 : Shape := ⟨3, ![1, 32768, 2048]⟩
abbrev S1x2048x128 : Shape := ⟨3, ![1, 2048, 128]⟩
abbrev S1x32768x128 : Shape := ⟨3, ![1, 32768, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x2048, .bf16⟩
  | .hbm, ⟨1, _⟩ => ⟨S2048x128, .bf16⟩
  | .hbm, ⟨2, _⟩ => ⟨S1x32768x2048, .bf16⟩
  | .hbm, ⟨3, _⟩ => ⟨S1x2048x128, .bf16⟩
  | .hbm, ⟨4, _⟩ => ⟨S1x32768x128, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x128, .bf16⟩
  | .local _ .vmem, ⟨3, _⟩ => ⟨S1x1024x128, .f32⟩
  | .local _ .vmem, ⟨4, _⟩ => ⟨S1x1024x128, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj1Ideal.lean ====
abbrev S16x2048x2048 : Shape := ⟨3, ![16, 2048, 2048]⟩
abbrev S2048x128 : Shape := ⟨2, ![2048, 128]⟩
abbrev S1x32768x2048 : Shape := ⟨3, ![1, 32768, 2048]⟩
abbrev S1x2048x128 : Shape := ⟨3, ![1, 2048, 128]⟩
abbrev S1x32768x128 : Shape := ⟨3, ![1, 32768, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x2048, .bf16⟩
  | .hbm, ⟨1, _⟩ => ⟨S2048x128, .bf16⟩
  | .hbm, ⟨2, _⟩ => ⟨S1x32768x2048, .bf16⟩
  | .hbm, ⟨3, _⟩ => ⟨S1x2048x128, .bf16⟩
  | .hbm, ⟨4, _⟩ => ⟨S1x32768x128, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x128, .bf16⟩
  | .local _ .vmem, ⟨3, _⟩ => ⟨S1x1024x128, .f32⟩
  | .local _ .vmem, ⟨4, _⟩ => ⟨S1x1024x128, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj1RefIdeal.lean ====
abbrev S16x2048x2048 : Shape := ⟨3, ![16, 2048, 2048]⟩
abbrev S2048x128 : Shape := ⟨2, ![2048, 128]⟩
abbrev S16x2048x128 : Shape := ⟨3, ![16, 2048, 128]⟩
abbrev S1x32768x128 : Shape := ⟨3, ![1, 32768, 128]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x128, .bf16⟩
  | .hbm, ⟨2, _⟩ => ⟨S16x2048x2048, .f32⟩
  | .hbm, ⟨3, _⟩ => ⟨S2048x128, .f32⟩
  | .hbm, ⟨4, _⟩ => ⟨S16x2048x128, .f32⟩
  | .hbm, ⟨5, _⟩ => ⟨S1x32768x128, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj3.lean ====
abbrev S16x2048x2048 : Shape := ⟨3, ![16, 2048, 2048]⟩
abbrev S2048x3072 : Shape := ⟨2, ![2048, 3072]⟩
abbrev S1x32768x2048 : Shape := ⟨3, ![1, 32768, 2048]⟩
abbrev S1x2048x3072 : Shape := ⟨3, ![1, 2048, 3072]⟩
abbrev S1x32768x3072 : Shape := ⟨3, ![1, 32768, 3072]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S2048x3072, .bf16⟩
  | .hbm, ⟨2, _⟩ => ⟨S1x32768x2048, .bf16⟩
  | .hbm, ⟨3, _⟩ => ⟨S1x2048x3072, .bf16⟩
  | .hbm, ⟨4, _⟩ => ⟨S1x32768x3072, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj3Ideal.lean ====
abbrev S16x2048x2048 : Shape := ⟨3, ![16, 2048, 2048]⟩
abbrev S2048x3072 : Shape := ⟨2, ![2048, 3072]⟩
abbrev S1x32768x2048 : Shape := ⟨3, ![1, 32768, 2048]⟩
abbrev S1x2048x3072 : Shape := ⟨3, ![1, 2048, 3072]⟩
abbrev S1x32768x3072 : Shape := ⟨3, ![1, 32768, 3072]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S2048x3072, .bf16⟩
  | .hbm, ⟨2, _⟩ => ⟨S1x32768x2048, .bf16⟩
  | .hbm, ⟨3, _⟩ => ⟨S1x2048x3072, .bf16⟩
  | .hbm, ⟨4, _⟩ => ⟨S1x32768x3072, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj3RefIdeal.lean ====
abbrev S16x2048x2048 : Shape := ⟨3, ![16, 2048, 2048]⟩
abbrev S2048x3072 : Shape := ⟨2, ![2048, 3072]⟩
abbrev S16x2048x3072 : Shape := ⟨3, ![16, 2048, 3072]⟩
abbrev S1x32768x3072 : Shape := ⟨3, ![1, 32768, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x3072, .bf16⟩
  | .hbm, ⟨2, _⟩ => ⟨S16x2048x2048, .f32⟩
  | .hbm, ⟨3, _⟩ => ⟨S2048x3072, .f32⟩
  | .hbm, ⟨4, _⟩ => ⟨S16x2048x3072, .f32⟩
  | .hbm, ⟨5, _⟩ => ⟨S1x32768x3072, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj4.lean ====
abbrev S16x2048x2048 : Shape := ⟨3, ![16, 2048, 2048]⟩
abbrev S2048x4096 : Shape := ⟨2, ![2048, 4096]⟩
abbrev S1x32768x2048 : Shape := ⟨3, ![1, 32768, 2048]⟩
abbrev S1x2048x4096 : Shape := ⟨3, ![1, 2048, 4096]⟩
abbrev S1x32768x4096 : Shape := ⟨3, ![1, 32768, 4096]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S2048x4096, .bf16⟩
  | .hbm, ⟨2, _⟩ => ⟨S1x32768x2048, .bf16⟩
  | .hbm, ⟨3, _⟩ => ⟨S1x2048x4096, .bf16⟩
  | .hbm, ⟨4, _⟩ => ⟨S1x32768x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj4Ideal.lean ====
abbrev S16x2048x2048 : Shape := ⟨3, ![16, 2048, 2048]⟩
abbrev S2048x4096 : Shape := ⟨2, ![2048, 4096]⟩
abbrev S1x32768x2048 : Shape := ⟨3, ![1, 32768, 2048]⟩
abbrev S1x2048x4096 : Shape := ⟨3, ![1, 2048, 4096]⟩
abbrev S1x32768x4096 : Shape := ⟨3, ![1, 32768, 4096]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S2048x4096, .bf16⟩
  | .hbm, ⟨2, _⟩ => ⟨S1x32768x2048, .bf16⟩
  | .hbm, ⟨3, _⟩ => ⟨S1x2048x4096, .bf16⟩
  | .hbm, ⟨4, _⟩ => ⟨S1x32768x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj4RefIdeal.lean ====
abbrev S16x2048x2048 : Shape := ⟨3, ![16, 2048, 2048]⟩
abbrev S2048x4096 : Shape := ⟨2, ![2048, 4096]⟩
abbrev S16x2048x4096 : Shape := ⟨3, ![16, 2048, 4096]⟩
abbrev S1x32768x4096 : Shape := ⟨3, ![1, 32768, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x4096, .bf16⟩
  | .hbm, ⟨2, _⟩ => ⟨S16x2048x2048, .f32⟩
  | .hbm, ⟨3, _⟩ => ⟨S2048x4096, .f32⟩
  | .hbm, ⟨4, _⟩ => ⟨S16x2048x4096, .f32⟩
  | .hbm, ⟨5, _⟩ => ⟨S1x32768x4096, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj6.lean ====
abbrev S16x2048x2048 : Shape := ⟨3, ![16, 2048, 2048]⟩
abbrev S2048x6144 : Shape := ⟨2, ![2048, 6144]⟩
abbrev S1x32768x2048 : Shape := ⟨3, ![1, 32768, 2048]⟩
abbrev S1x2048x6144 : Shape := ⟨3, ![1, 2048, 6144]⟩
abbrev S1x32768x6144 : Shape := ⟨3, ![1, 32768, 6144]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .bf16⟩
  | .hbm, ⟨1, _⟩ => ⟨S2048x6144, .bf16⟩
  | .hbm, ⟨2, _⟩ => ⟨S1x32768x2048, .bf16⟩
  | .hbm, ⟨3, _⟩ => ⟨S1x2048x6144, .bf16⟩
  | .hbm, ⟨4, _⟩ => ⟨S1x32768x6144, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 6, 32, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Proj6RefIdeal.lean ====
abbrev S16x2048x2048 : Shape := ⟨3, ![16, 2048, 2048]⟩
abbrev S2048x6144 : Shape := ⟨2, ![2048, 6144]⟩
abbrev S16x2048x6144 : Shape := ⟨3, ![16, 2048, 6144]⟩
abbrev S1x32768x6144 : Shape := ⟨3, ![1, 32768, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x6144, .bf16⟩
  | .hbm, ⟨2, _⟩ => ⟨S16x2048x2048, .f32⟩
  | .hbm, ⟨3, _⟩ => ⟨S2048x6144, .f32⟩
  | .hbm, ⟨4, _⟩ => ⟨S16x2048x6144, .f32⟩
  | .hbm, ⟨5, _⟩ => ⟨S1x32768x6144, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Experts.lean ====
abbrev S16x16x256x2048 : Shape := ⟨4, ![16, 16, 256, 2048]⟩
abbrev S16x16x256x1 : Shape := ⟨4, ![16, 16, 256, 1]⟩
abbrev S16x2048x1024 : Shape := ⟨3, ![16, 2048, 1024]⟩
abbrev S16x1024x2048 : Shape := ⟨3, ![16, 1024, 2048]⟩
abbrev S16x4096x2048 : Shape := ⟨3, ![16, 4096, 2048]⟩
abbrev S16x4096x1 : Shape := ⟨3, ![16, 4096, 1]⟩
abbrev S1x512x2048 : Shape := ⟨3, ![1, 512, 2048]⟩
abbrev S1x512x1 : Shape := ⟨3, ![1, 512, 1]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16x16x256x2048, .bf16⟩
  | .hbm, ⟨1, _⟩ => ⟨S16x16x256x1, .f32⟩
  | .hbm, ⟨2, _⟩ => ⟨S16x2048x1024, .f32⟩
  | .hbm, ⟨3, _⟩ => ⟨S16x2048x1024, .f32⟩
  | .hbm, ⟨4, _⟩ => ⟨S16x1024x2048, .f32⟩
  | .hbm, ⟨5, _⟩ => ⟨S16x2048x1024, .bf16⟩
  | .hbm, ⟨6, _⟩ => ⟨S16x2048x1024, .bf16⟩
  | .hbm, ⟨7, _⟩ => ⟨S16x1024x2048, .bf16⟩
  | .hbm, ⟨8, _⟩ => ⟨S16x4096x2048, .bf16⟩
  | .hbm, ⟨9, _⟩ => ⟨S16x4096x1, .f32⟩
  | .hbm, ⟨10, _⟩ => ⟨S16x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x1, .f32⟩
  | .local _ .vmem, ⟨3, _⟩ => ⟨S1x512x1, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x512x2048, .bf16⟩
  | .local _ .vmem, ⟨11, _⟩ => ⟨S1x512x2048, .bf16⟩
  | _, _ => ⟨S16x16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsRefIdeal.lean ====
abbrev S16x16x256x2048 : Shape := ⟨4, ![16, 16, 256, 2048]⟩
abbrev S16x16x256x1 : Shape := ⟨4, ![16, 16, 256, 1]⟩
abbrev S16x2048x1024 : Shape := ⟨3, ![16, 2048, 1024]⟩
abbrev S16x1024x2048 : Shape := ⟨3, ![16, 1024, 2048]⟩
abbrev S16x16x256x1024 : Shape := ⟨4, ![16, 16, 256, 1024]⟩
abbrev S_ : Shape := ⟨0, ![]⟩
abbrev S16x4096x2048 : Shape := ⟨3, ![16, 4096, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x16x256x2048, .bf16⟩
  | .hbm, ⟨1, _⟩ => ⟨S16x16x256x1, .f32⟩
  | .hbm, ⟨2, _⟩ => ⟨S16x2048x1024, .f32⟩
  | .hbm, ⟨3, _⟩ => ⟨S16x2048x1024, .f32⟩
  | .hbm, ⟨4, _⟩ => ⟨S16x1024x2048, .f32⟩
  | .hbm, ⟨5, _⟩ => ⟨S16x16x256x2048, .f32⟩
  | .hbm, ⟨6, _⟩ => ⟨S16x16x256x1024, .f32⟩
  | .hbm, ⟨7, _⟩ => ⟨S16x16x256x1024, .f32⟩
  | .hbm, ⟨8, _⟩ => ⟨S16x16x256x1024, .f32⟩
  | .hbm, ⟨9, _⟩ => ⟨S16x16x256x1024, .f32⟩
  | .hbm, ⟨10, _⟩ => ⟨S_, .f32⟩
  | .hbm, ⟨11, _⟩ => ⟨S16x16x256x1024, .f32⟩
  | .hbm, ⟨12, _⟩ => ⟨S16x16x256x1024, .f32⟩
  | .hbm, ⟨13, _⟩ => ⟨S_, .f32⟩
  | .hbm, ⟨14, _⟩ => ⟨S16x16x256x1024, .f32⟩
  | .hbm, ⟨15, _⟩ => ⟨S16x16x256x1024, .f32⟩
  | .hbm, ⟨16, _⟩ => ⟨S16x16x256x1024, .f32⟩
  | .hbm, ⟨17, _⟩ => ⟨S16x16x256x1024, .f32⟩
  | .hbm, ⟨18, _⟩ => ⟨S16x16x256x2048, .f32⟩
  | .hbm, ⟨19, _⟩ => ⟨S16x16x256x2048, .f32⟩
  | .hbm, ⟨20, _⟩ => ⟨S16x16x256x2048, .f32⟩
  | .hbm, ⟨21, _⟩ => ⟨S16x16x256x2048, .bf16⟩
  | .hbm, ⟨22, _⟩ => ⟨S16x4096x2048, .bf16⟩
  | _, _ => ⟨S16x16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x6144 : Shape := ⟨3, ![16, 2048, 6144]⟩
abbrev S3x1024x2048 : Shape := ⟨3, ![3, 1024, 2048]⟩
abbrev S32768x1024 : Shape := ⟨2, ![32768, 1024]⟩
abbrev S32768x6144 : Shape := ⟨2, ![32768, 6144]⟩
abbrev S32768x2048 : Shape := ⟨2, ![32768, 2048]⟩
abbrev S512x1024 : Shape := ⟨2, ![512, 1024]⟩
abbrev S512x512 : Shape := ⟨2, ![512, 512]⟩
abbrev S3x1024x512 : Shape := ⟨3, ![3, 1024, 512]⟩
abbrev S1x1024x512 : Shape := ⟨3, ![1, 1024, 512]⟩
abbrev S1024x512 : Shape := ⟨2, ![1024, 512]⟩

abbrev nBuf : Space → Nat
  | .hbm => 11
  | .vmem => 16
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x2048x6144, .f32⟩
  | .hbm, ⟨4, _⟩ => ⟨S3x1024x2048, .f32⟩
  | .hbm, ⟨5, _⟩ => ⟨S3x1024x2048, .bf16⟩
  | .hbm, ⟨6, _⟩ => ⟨S32768x1024, .bf16⟩
  | .hbm, ⟨7, _⟩ => ⟨S32768x1024, .bf16⟩
  | .hbm, ⟨8, _⟩ => ⟨S32768x1024, .bf16⟩
  | .hbm, ⟨9, _⟩ => ⟨S32768x6144, .f32⟩
  | .hbm, ⟨10, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S3x1024x512, .bf16⟩
  | .local _ .vmem, ⟨13, _⟩ => ⟨S3x1024x512, .bf16⟩
  | .local _ .vmem, ⟨14, _⟩ => ⟨S512x512, .bf16⟩
  | .local _ .vmem, ⟨15, _⟩ => ⟨S512x512, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16x2048x1024 : Shape := ⟨3, ![16, 2048, 1024]⟩
abbrev S16x2048x6144 : Shape := ⟨3, ![16, 2048, 6144]⟩
abbrev S3x1024x2048 : Shape := ⟨3, ![3, 1024, 2048]⟩
abbrev S16x2048x3x2048 : Shape := ⟨4, ![16, 2048, 3, 2048]⟩
abbrev S_ : Shape := ⟨0, ![]⟩
abbrev S16x2048x1x2048 : Shape := ⟨4, ![16, 2048, 1, 2048]⟩
abbrev S16x2048x2048 : Shape := ⟨3, ![16, 2048, 2048]⟩
abbrev S1x1024x2048 : Shape := ⟨3, ![1, 1024, 2048]⟩
abbrev S1024x2048 : Shape := ⟨2, ![1024, 2048]⟩
abbrev S32768x2048 : Shape := ⟨2, ![32768, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x2048x6144, .f32⟩
  | .hbm, ⟨4, _⟩ => ⟨S3x1024x2048, .f32⟩
  | .hbm, ⟨5, _⟩ => ⟨S16x2048x3x2048, .f32⟩
  | .hbm, ⟨6, _⟩ => ⟨S16x2048x3x2048, .f32⟩
  | .hbm, ⟨7, _⟩ => ⟨S16x2048x3x2048, .f32⟩
  | .hbm, ⟨8, _⟩ => ⟨S_, .f32⟩
  | .hbm, ⟨9, _⟩ => ⟨S16x2048x3x2048, .f32⟩
  | .hbm, ⟨10, _⟩ => ⟨S16x2048x3x2048, .f32⟩
  | .hbm, ⟨11, _⟩ => ⟨S_, .f32⟩
  | .hbm, ⟨12, _⟩ => ⟨S16x2048x3x2048, .f32⟩
  | .hbm, ⟨13, _⟩ => ⟨S16x2048x3x2048, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x1x2048, .f32⟩
  | .hbm, ⟨18, _⟩ => ⟨S16x2048x2048, .f32⟩
  | .hbm, ⟨19, _⟩ => ⟨S1x1024x2048, .f32⟩
  | .hbm, ⟨20, _⟩ => ⟨S1024x2048, .f32⟩
  | .hbm, ⟨21, _⟩ => ⟨S16x2048x2048, .f32⟩
  | .hbm, ⟨22, _⟩ => ⟨S16x2048x2048, .f32⟩
  | .hbm, ⟨23, _⟩ => ⟨S16x2048x1x2048, .f32⟩
  | .hbm, ⟨24, _⟩ => ⟨S16x2048x2048, .f32⟩
  | .hbm, ⟨25, _⟩ => ⟨S1x1024x2048, .f32⟩
  | .hbm, ⟨26, _⟩ => ⟨S1024x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x1x2048, .f32⟩
  | .hbm, ⟨31, _⟩ => ⟨S16x2048x2048, .f32⟩
  | .hbm, ⟨32, _⟩ => ⟨S1x1024x2048, .f32⟩
  | .hbm, ⟨33, _⟩ => ⟨S1024x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .bf16⟩
  | .hbm, ⟨38, _⟩ => ⟨S32768x2048, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Out.lean ====
abbrev S16x2048x2048 : Shape := ⟨3, ![16, 2048, 2048]⟩
abbrev S2048x2048 : Shape := ⟨2, ![2048, 2048]⟩
abbrev S16x12288 : Shape := ⟨2, ![16, 12288]⟩
abbrev S16x6x2048 : Shape := ⟨3, ![16, 6, 2048]⟩
abbrev S_ : Shape := ⟨0, ![]⟩
abbrev S16x8x2048 : Shape := ⟨3, ![16, 8, 2048]⟩
abbrev S1x2048x2048 : Shape := ⟨3, ![1, 2048, 2048]⟩
abbrev S16x1x2048 : Shape := ⟨3, ![16, 1, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1x1x1024 : Shape := ⟨3, ![1, 1, 1024]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16x2048x2048, .bf16⟩
  | .hbm, ⟨1, _⟩ => ⟨S2048x2048, .f32⟩
  | .hbm, ⟨2, _⟩ => ⟨S16x2048x2048, .f32⟩
  | .hbm, ⟨3, _⟩ => ⟨S16x12288, .f32⟩
  | .hbm, ⟨4, _⟩ => ⟨S2048x2048, .bf16⟩
  | .hbm, ⟨5, _⟩ => ⟨S16x6x2048, .f32⟩
  | .hbm, ⟨6, _⟩ => ⟨S_, .i32⟩
  | .hbm, ⟨7, _⟩ => ⟨S_, .f32⟩
  | .hbm, ⟨8, _⟩ => ⟨S16x8x2048, .f32⟩
  | .hbm, ⟨9, _⟩ => ⟨S1x2048x2048, .bf16⟩
  | .hbm, ⟨10, _⟩ => ⟨S16x1x2048, .f32⟩
  | .hbm, ⟨11, _⟩ => ⟨S16x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![16, 2, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== OutRefIdeal.lean ====
abbrev S16x2048x2048 : Shape := ⟨3, ![16, 2048, 2048]⟩
abbrev S2048x2048 : Shape := ⟨2, ![2048, 2048]⟩
abbrev S16x12288 : Shape := ⟨2, ![16, 12288]⟩
abbrev S16x1x12288 : Shape := ⟨3, ![16, 1, 12288]⟩
abbrev S16x1x2048 : Shape := ⟨3, ![16, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x2048, .f32⟩
  | .hbm, ⟨2, _⟩ => ⟨S16x2048x2048, .f32⟩
  | .hbm, ⟨3, _⟩ => ⟨S16x12288, .f32⟩
  | .hbm, ⟨4, _⟩ => ⟨S16x1x12288, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Norm.lean ====
abbrev S16x2048x2048 : Shape := ⟨3, ![16, 2048, 2048]⟩
abbrev S2048 : Shape := ⟨1, ![2048]⟩
abbrev S1x2048 : Shape := ⟨2, ![1, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S1x2048, .f32⟩
  | .hbm, ⟨3, _⟩ => ⟨S16x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormRefIdeal.lean ====
abbrev S16x2048x2048 : Shape := ⟨3, ![16, 2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S_, .f32⟩
  | .hbm, ⟨7, _⟩ => ⟨S16x2048x1, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S1x1x2048, .f32⟩
  | .hbm, ⟨16, _⟩ => ⟨S16x2048x2048, .f32⟩
  | .hbm, ⟨17, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Normmod.lean ====
abbrev S16x2048x2048 : Shape := ⟨3, ![16, 2048, 2048]⟩
abbrev S2048 : Shape := ⟨1, ![2048]⟩
abbrev S16x12288 : Shape := ⟨2, ![16, 12288]⟩
abbrev S1x2048 : Shape := ⟨2, ![1, 2048]⟩
abbrev S16x6x2048 : Shape := ⟨3, ![16, 6, 2048]⟩
abbrev S_ : Shape := ⟨0, ![]⟩
abbrev S16x8x2048 : Shape := ⟨3, ![16, 8, 2048]⟩
abbrev S1x256x2048 : Shape := ⟨3, ![1, 256, 2048]⟩
abbrev S1x8x2048 : Shape := ⟨3, ![1, 8, 2048]⟩
abbrev S256x2048 : Shape := ⟨2, ![256, 2048]⟩
abbrev S256 : Shape := ⟨1, ![256]⟩
abbrev S256x1 : Shape := ⟨2, ![256, 1]⟩
abbrev S8x2048 : Shape := ⟨2, ![8, 2048]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x12288, .f32⟩
  | .hbm, ⟨3, _⟩ => ⟨S1x2048, .f32⟩
  | .hbm, ⟨4, _⟩ => ⟨S16x6x2048, .f32⟩
  | .hbm, ⟨5, _⟩ => ⟨S_, .i32⟩
  | .hbm, ⟨6, _⟩ => ⟨S_, .f32⟩
  | .hbm, ⟨7, _⟩ => ⟨S16x8x2048, .f32⟩
  | .hbm, ⟨8, _⟩ => ⟨S16x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x256x2048, .bf16⟩
  | .local _ .vmem, ⟨6, _⟩ => ⟨S1x256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormmodRefIdeal.lean ====
abbrev S16x2048x2048 : Shape := ⟨3, ![16, 2048, 2048]⟩
abbrev S2048 : Shape := ⟨1, ![2048]⟩
abbrev S16x12288 : Shape := ⟨2, ![16, 12288]⟩
abbrev S16x1x12288 : Shape := ⟨3, ![16, 1, 12288]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x12288, .f32⟩
  | .hbm, ⟨3, _⟩ => ⟨S16x1x12288, .f32⟩
  | .hbm, ⟨4, _⟩ => ⟨S16x1x2048, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x2048x2048, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S1x1x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x1x2048, .f32⟩
  | .hbm, ⟨28, _⟩ => ⟨S16x1x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Ada.lean ====
abbrev S16x2048 : Shape := ⟨2, ![16, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S8x2048 : Shape := ⟨2, ![8, 2048]⟩
abbrev S24x2048 : Shape := ⟨2, ![24, 2048]⟩
abbrev S1x24x2048 : Shape := ⟨3, ![1, 24, 2048]⟩
abbrev S1x12288 : Shape := ⟨2, ![1, 12288]⟩
abbrev S12288 : Shape := ⟨1, ![12288]⟩
abbrev S1x1x12288 : Shape := ⟨3, ![1, 1, 12288]⟩
abbrev S1x24x12288 : Shape := ⟨3, ![1, 24, 12288]⟩
abbrev S1x2048x1024 : Shape := ⟨3, ![1, 2048, 1024]⟩
abbrev S1x1x1024 : Shape := ⟨3, ![1, 1, 1024]⟩
abbrev S1x24x1024 : Shape := ⟨3, ![1, 24, 1024]⟩
abbrev S2048x1024 : Shape := ⟨2, ![2048, 1024]⟩
abbrev S24x1024 : Shape := ⟨2, ![24, 1024]⟩
abbrev S1x1024 : Shape := ⟨2, ![1, 1024]⟩

abbrev nBuf : Space → Nat
  | .hbm => 12
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S8x2048, .f32⟩
  | .hbm, ⟨6, _⟩ => ⟨S24x2048, .f32⟩
  | .hbm, ⟨7, _⟩ => ⟨S1x24x2048, .f32⟩
  | .hbm, ⟨8, _⟩ => ⟨S1x12288, .f32⟩
  | .hbm, ⟨9, _⟩ => ⟨S12288, .f32⟩
  | .hbm, ⟨10, _⟩ => ⟨S1x1x12288, .f32⟩
  | .hbm, ⟨11, _⟩ => ⟨S1x24x12288, .f32⟩
  | .local _ .vmem, ⟨0, _⟩ => ⟨S1x24x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 12, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false, false]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== AdaRefIdeal.lean ====
abbrev S16x2048 : Shape := ⟨2, ![16, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x2048 : Shape := ⟨2, ![1, 2048]⟩
abbrev S8x12288 : Shape := ⟨2, ![8, 12288]⟩
abbrev S24x12288 : Shape := ⟨2, ![24, 12288]⟩
abbrev S1x24x12288 : Shape := ⟨3, ![1, 24, 12288]⟩

abbrev nBuf : Space → Nat
  | .hbm => 41
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S1x2048x12288, .f32⟩
  | .hbm, ⟨14, _⟩ => ⟨S2048x12288, .f32⟩
  | .hbm, ⟨15, _⟩ => ⟨S16x12288, .f32⟩
  | .hbm, ⟨16, _⟩ => ⟨S1x12288, .f32⟩
  | .hbm, ⟨17, _⟩ => ⟨S12288, .f32⟩
  | .hbm, ⟨18, _⟩ => ⟨S1x12288, .f32⟩
  | .hbm, ⟨19, _⟩ => ⟨S16x12288, .f32⟩
  | .hbm, ⟨20, _⟩ => ⟨S16x12288, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S1x2048x12288, .f32⟩
  | .hbm, ⟨32, _⟩ => ⟨S2048x12288, .f32⟩
  | .hbm, ⟨33, _⟩ => ⟨S1x12288, .f32⟩
  | .hbm, ⟨34, _⟩ => ⟨S1x12288, .f32⟩
  | .hbm, ⟨35, _⟩ => ⟨S12288, .f32⟩
  | .hbm, ⟨36, _⟩ => ⟨S1x12288, .f32⟩
  | .hbm, ⟨37, _⟩ => ⟨S1x12288, .f32⟩
  | .hbm, ⟨38, _⟩ => ⟨S8x12288, .f32⟩
  | .hbm, ⟨39, _⟩ => ⟨S24x12288, .f32⟩
  | .hbm, ⟨40, _⟩ => ⟨S1x24x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== GdnPost.lean ====
abbrev S16x2048x1024 : Shape := ⟨3, ![16, 2048, 1024]⟩
abbrev S16x2048x4096 : Shape := ⟨3, ![16, 2048, 4096]⟩
abbrev S128 : Shape := ⟨1, ![128]⟩
abbrev S1x128 : Shape := ⟨2, ![1, 128]⟩
abbrev S1x256x1024 : Shape := ⟨3, ![1, 256, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x4096, .f32⟩
  | .hbm, ⟨3, _⟩ => ⟨S128, .f32⟩
  | .hbm, ⟨4, _⟩ => ⟨S1x128, .f32⟩
  | .hbm, ⟨5, _⟩ => ⟨S16x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x128, .f32⟩
  | .local _ .vmem, ⟨7, _⟩ => ⟨S1x256x1024, .bf16⟩
  | .local _ .vmem, ⟨8, _⟩ => ⟨S1x256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GdnPostRefIdeal.lean ====
abbrev S16x2048x1024 : Shape := ⟨3, ![16, 2048, 1024]⟩
abbrev S16x2048x4096 : Shape := ⟨3, ![16, 2048, 4096]⟩
abbrev S128 : Shape := ⟨1, ![128]⟩
abbrev S16x2048x8x128 : Shape := ⟨4, ![16, 2048, 8, 128]⟩
abbrev S_ : Shape := ⟨0, ![]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x4096, .f32⟩
  | .hbm, ⟨3, _⟩ => ⟨S128, .f32⟩
  | .hbm, ⟨4, _⟩ => ⟨S16x2048x1024, .f32⟩
  | .hbm, ⟨5, _⟩ => ⟨S16x2048x8x128, .f32⟩
  | .hbm, ⟨6, _⟩ => ⟨S16x2048x1024, .f32⟩
  | .hbm, ⟨7, _⟩ => ⟨S16x2048x8x128, .f32⟩
  | .hbm, ⟨8, _⟩ => ⟨S16x2048x8x128, .f32⟩
  | .hbm, ⟨9, _⟩ => ⟨S_, .f32⟩
  | .hbm, ⟨10, _⟩ => ⟨S16x2048x8, .f32⟩
  | .hbm, ⟨11, _⟩ => ⟨S16x2048x8x1, .f32⟩
  | .hbm, ⟨12, _⟩ => ⟨S_, .f32⟩
  | .hbm, ⟨13, _⟩ => ⟨S16x2048x8x1, .f32⟩
  | .hbm, ⟨14, _⟩ => ⟨S16x2048x8x1, .f32⟩
  | .hbm, ⟨15, _⟩ => ⟨S_, .f32⟩
  | .hbm, ⟨16, _⟩ => ⟨S16x2048x8x1, .f32⟩
  | .hbm, ⟨17, _⟩ => ⟨S16x2048x8x1, .f32⟩
  | .hbm, ⟨18, _⟩ => ⟨S16x2048x8x1, .f32⟩
  | .hbm, ⟨19, _⟩ => ⟨S16x2048x8x128, .f32⟩
  | .hbm, ⟨20, _⟩ => ⟨S16x2048x8x128, .f32⟩
  | .hbm, ⟨21, _⟩ => ⟨S1x1x1x128, .f32⟩
  | .hbm, ⟨22, _⟩ => ⟨S16x2048x8x128, .f32⟩
  | .hbm, ⟨23, _⟩ => ⟨S16x2048x8x128, .f32⟩
  | .hbm, ⟨24, _⟩ => ⟨S16x2048x8x128, .f32⟩
  | .hbm, ⟨25, _⟩ => ⟨S16x2048x8x128, .f32⟩
  | .hbm, ⟨26, _⟩ => ⟨S_, .f32⟩
  | .hbm, ⟨27, _⟩ => ⟨S16x2048x8x128, .f32⟩
  | .hbm, ⟨28, _⟩ => ⟨S16x2048x8x128, .f32⟩
  | .hbm, ⟨29, _⟩ => ⟨S_, .f32⟩
  | .hbm, ⟨30, _⟩ => ⟨S16x2048x8x128, .f32⟩
  | .hbm, ⟨31, _⟩ => ⟨S16x2048x8x128, .f32⟩
  | .hbm, ⟨32, _⟩ => ⟨S16x2048x8x128, .f32⟩
  | .hbm, ⟨33, _⟩ => ⟨S16x2048x8x128, .f32⟩
  | .hbm, ⟨34, _⟩ => ⟨S16x2048x1024, .f32⟩
  | .hbm, ⟨35, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.KernelRow.lean ====
/- The kernel's attention, read at one index: the eight blocks of query rows, each through the same chain (scores,
   powers of two, values, one division), for both half-heads. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

/-- One block of 256 query rows against all keys: scores, powers of two of the shifted scores, the product with the
    values and with the ones, the division. -/
def chain (qt : FVec Ideal S256x128 .bf16) (kb : FVec Ideal S2304x128 .bf16) (va : FVec Ideal S2304x256 .bf16) : FVec Ideal S256x128 .f32 :=
  have sc : FVec Ideal S256x2304 .f32 := matmul dot_S256x128_S2304x128_S256x2304_1_1_0_0_n_n none qt kb (constant S256x2304 .f32 0x00000000#32)
  have mx : FVec Ideal S256 .f32 := multiReduction .maximumf [1] S256 sc 0xFF800000#32 reduces_S256x2304_S256 (.inl rfl) rfl
  have e : FVec Ideal S256x2304 .bf16 := truncf .bf16 (exp2 (subf sc (broadcastTo S256x2304 (shapeCast S256x1 mx shapeCasts_S256_S256x1) broadcasts_S256x1_S256x2304))) bitsLt_bf16_f32
  have r : FVec Ideal S256x256 .f32 := matmul dot_S256x2304_S2304x256_S256x256_1_0_0_1_n_n none e va (constant S256x256 .f32 0x00000000#32)
  have d : FVec Ideal S256x1 .f32 := divf (broadcast S256x1 (Scalar.ofBits .f32 0x3F800000#32)) (extractStridedSlice S256x1 ![0, 128] r slices_S256x256_o0_128_S256x1)
  mulf (extractStridedSlice S256x128 ![0, 0] r slices_S256x256_o0_0_S256x128) (broadcastTo S256x128 d broadcasts_S256x1_S256x128)

/-- The same at one row and lane, over a row of query lanes, the keys and one column of values. -/
def row (q : Fin 128 → EReal) (kb : FVec Ideal S2304x128 .bf16) (va : FVec Ideal S2304x256 .bf16) (e : Fin 128) : EReal :=
  (∑ s : Fin 2304, Ideal.exp2 ((∑ l : Fin 128, q l * kb (ix2 s l)) - Finset.univ.fold max (Ideal.ofBits FTy.f32 0xFF800000#32) fun s : Fin 2304 => ∑ l : Fin 128, q l * kb (ix2 s l)) * va (ix2 s ⟨e, by omega⟩))
  * Ideal.div 1 (∑ s : Fin 2304, Ideal.exp2 ((∑ l : Fin 128, q l * kb (ix2 s l)) - Finset.univ.fold max (Ideal.ofBits FTy.f32 0xFF800000#32) fun s : Fin 2304 => ∑ l : Fin 128, q l * kb (ix2 s l)) * va (ix2 s 128))

theorem chain_at (qt : FVec Ideal S256x128 .bf16) (kb : FVec Ideal S2304x128 .bf16) (va : FVec Ideal S2304x256 .bf16) (r : Fin 256) (e : Fin 128) :
    chain qt kb va (ix2 r e) = row (fun l => qt (ix2 r l)) kb va e := by
  pointwise [chain, row]
  rfl

/-- All 2048 query rows: the eight blocks, each the first half-head minus `lam` times the second. -/
def diffRows (lam : FVec Ideal S1x1 .f32) (q0 q1 : FVec Ideal S2048x128 .bf16) (kb : FVec Ideal S2304x128 .bf16) (va : FVec Ideal S2304x256 .bf16) : FVec Ideal S2048x128 .f32 :=
  concatenate S2048x128 0 [
    ⟨S256x128, subf (chain (extractStridedSlice S256x128 ![0, 0] q0 slices_S2048x128_o0_0_S256x128) kb va) (mulf (broadcastTo S256x128 lam broadcasts_S1x1_S256x128) (chain (extractStridedSlice S256x128 ![0, 0] q1 slices_S2048x128_o0_0_S256x128) kb va))⟩,
    ⟨S256x128, subf (chain (extractStridedSlice S256x128 ![256, 0] q0 slices_S2048x128_o256_0_S256x128) kb va) (mulf (broadcastTo S256x128 lam broadcasts_S1x1_S256x128) (chain (extractStridedSlice S256x128 ![256, 0] q1 slices_S2048x128_o256_0_S256x128) kb va))⟩,
    ⟨S256x128, subf (chain (extractStridedSlice S256x128 ![512, 0] q0 slices_S2048x128_o512_0_S256x128) kb va) (mulf (broadcastTo S256x128 lam broadcasts_S1x1_S256x128) (chain (extractStridedSlice S256x128 ![512, 0] q1 slices_S2048x128_o512_0_S256x128) kb va))⟩,
    ⟨S256x128, subf (chain (extractStridedSlice S256x128 ![768, 0] q0 slices_S2048x128_o768_0_S256x128) kb va) (mulf (broadcastTo S256x128 lam broadcasts_S1x1_S256x128) (chain (extractStridedSlice S256x128 ![768, 0] q1 slices_S2048x128_o768_0_S256x128) kb va))⟩,
    ⟨S256x128, subf (chain (extractStridedSlice S256x128 ![1024, 0] q0 slices_S2048x128_o1024_0_S256x128) kb va) (mulf (broadcastTo S256x128 lam broadcasts_S1x1_S256x128) (chain (extractStridedSlice S256x128 ![1024, 0] q1 slices_S2048x128_o1024_0_S256x128) kb va))⟩,
    ⟨S256x128, subf (chain (extractStridedSlice S256x128 ![1280, 0] q0 slices_S2048x128_o1280_0_S256x128) kb va) (mulf (broadcastTo S256x128 lam broadcasts_S1x1_S256x128) (chain (extractStridedSlice S256x128 ![1280, 0] q1 slices_S2048x128_o1280_0_S256x128) kb va))⟩,
    ⟨S256x128, subf (chain (extractStridedSlice S256x128 ![1536, 0] q0 slices_S2048x128_o1536_0_S256x128) kb va) (mulf (broadcastTo S256x128 lam broadcasts_S1x1_S256x128) (chain (extractStridedSlice S256x128 ![1536, 0] q1 slices_S2048x128_o1536_0_S256x128) kb va))⟩,
    ⟨S256x128, subf (chain (extractStridedSlice S256x128 ![1792, 0] q0 slices_S2048x128_o1792_0_S256x128) kb va) (mulf (broadcastTo S256x128 lam broadcasts_S1x1_S256x128) (chain (extractStridedSlice S256x128 ![1792, 0] q1 slices_S2048x128_o1792_0_S256x128) kb va))⟩]
    concatenates_S256x128_S256x128_S256x128_S256x128_S256x128_S256x128_S256x128_S256x128_S2048x128_d0

/-- What the body computes from the masked query, the keys and the values is those rows; -/
theorem rows_eq (lam : FVec Ideal S1x1 .f32) (x : FVec Ideal S2048x128 .f32) (i : IVec S2048x128 32) (g : IVec S2048x128 1) (z : Ideal .f32)
    (kb : FVec Ideal S2304x128 .bf16) (va : FVec Ideal S2304x256 .bf16) :
    k0_pay42 lam (k0_pay16 (k0_pay14 x kb g z va) (k0_pay15 x kb g z va)) (k0_pay17 (k0_pay13 x i kb) va)
      (k0_pay18 kb (k0_pay11 x g z) va) (k0_pay21 (k0_pay20 kb (k0_pay12 x i)) va)
      (k0_pay22 (k0_pay19 kb (k0_pay11 x g z)) va) (k0_pay24 kb (k0_pay12 x i) va)
      (k0_pay26 (k0_pay23 kb (k0_pay11 x g z)) va) (k0_pay27 (k0_pay25 kb (k0_pay12 x i)) va)
      (k0_pay32 (k0_pay30 kb (k0_pay11 x g z) va) (k0_pay31 kb (k0_pay11 x g z) va)) (k0_pay33 (k0_pay28 kb (k0_pay12 x i)) va)
      (k0_pay34 kb (k0_pay11 x g z) va) (k0_pay37 (k0_pay36 kb (k0_pay12 x i)) va (constant S256x256 .f32 0x00000000#32))
      (k0_pay38 (k0_pay35 kb (k0_pay11 x g z)) va) (k0_pay39 kb (k0_pay12 x i) va)
      (k0_pay40 kb (k0_pay12 x i)) (k0_pay41 kb (k0_pay11 x g z)) va va
    = diffRows lam (k0_pay11 x g z) (k0_pay12 x i) kb va := rfl

/-- and what it sums for their mean square is their squares. -/
theorem squares_eq (lam : FVec Ideal S1x1 .f32) (x : FVec Ideal S2048x128 .f32) (i : IVec S2048x128 32) (g : IVec S2048x128 1) (z : Ideal .f32)
    (kb : FVec Ideal S2304x128 .bf16) (va : FVec Ideal S2304x256 .bf16) :
    k0_pay43 lam (k0_pay16 (k0_pay14 x kb g z va) (k0_pay15 x kb g z va)) (k0_pay17 (k0_pay13 x i kb) va)
      (k0_pay18 kb (k0_pay11 x g z) va) (k0_pay21 (k0_pay20 kb (k0_pay12 x i)) va)
      (k0_pay22 (k0_pay19 kb (k0_pay11 x g z)) va) (k0_pay24 kb (k0_pay12 x i) va)
      (k0_pay26 (k0_pay23 kb (k0_pay11 x g z)) va) (k0_pay27 (k0_pay25 kb (k0_pay12 x i)) va)
      (k0_pay32 (k0_pay30 kb (k0_pay11 x g z) va) (k0_pay31 kb (k0_pay11 x g z) va)) (k0_pay33 (k0_pay28 kb (k0_pay12 x i)) va)
      (k0_pay34 kb (k0_pay11 x g z) va) (k0_pay37 (k0_pay36 kb (k0_pay12 x i)) va (constant S256x256 .f32 0x00000000#32))
      (k0_pay38 (k0_pay35 kb (k0_pay11 x g z)) va) (k0_pay39 kb (k0_pay12 x i) va)
      (k0_pay40 kb (k0_pay12 x i)) (k0_pay41 kb (k0_pay11 x g z)) va va
    = mulf (diffRows lam (k0_pay11 x g z) (k0_pay12 x i) kb va) (diffRows lam (k0_pay11 x g z) (k0_pay12 x i) kb va) := rfl

/-- A row of the result depends on the query row's number only. -/
theorem row_congr (lam : EReal) (q0 q1 : FVec Ideal S2048x128 .bf16) (kb : FVec Ideal S2304x128 .bf16) (va : FVec Ideal S2304x256 .bf16) (e : Fin 128)
    {R R' : Fin 2048} (h : (R : ℕ) = R') :
    row (fun l => q0 (ix2 R l)) kb va e - lam * row (fun l => q1 (ix2 R l)) kb va e
      = row (fun l => q0 (ix2 R' l)) kb va e - lam * row (fun l => q1 (ix2 R' l)) kb va e := by
  obtain rfl := Fin.ext h; rfl

/-- One row and lane of them. -/
theorem diffRows_at (lam : FVec Ideal S1x1 .f32) (q0 q1 : FVec Ideal S2048x128 .bf16) (kb : FVec Ideal S2304x128 .bf16) (va : FVec Ideal S2304x256 .bf16)
    (R : Fin 2048) (e : Fin 128) :
    diffRows lam q0 q1 kb va (ix2 R e)
      = row (fun l => q0 (ix2 R l)) kb va e - lam (ix2 0 0) * row (fun l => q1 (ix2 R l)) kb va e := by
  pointwise [diffRows, chain_at]
  split_ifs <;> exact row_congr _ _ _ _ _ _ (by first | rfl | (dsimp only; omega))

/-- A selection whose word is set exactly where `p` holds. -/
theorem select_eq_ite {p : Prop} [Decidable p] {w : BitVec 1} {a b : EReal} (h : w = 1#1 ↔ p) : Scalar.select w a b = if p then a else b := by
  unfold Scalar.select
  by_cases hp : p
  · exact (if_pos (h.2 hp)).trans (if_pos hp).symm
  · exact (if_neg fun hw => hp (h.1 hw)).trans (if_neg hp).symm

/-- The first half-head keeps the lanes below 64. -/
theorem mask0_at (x : FVec Ideal S2048x128 .f32) (R : Fin 2048) (l : Fin 128) :
    k0_pay11 (F := Ideal) x (k0_pay10 (iota .tc S2048x128 32 [1] iota_S2048x128_d1_w32)) (FloatOps.ofBits .f32 0#32) (ix2 R l)
      = if (l : ℕ) < 64 then x (ix2 R l) else 0 := by
  pointwise [k0_pay11, k0_pay10]
  refine select_eq_ite ?_
  revert l; decide +kernel

/-- The second keeps the others. -/
theorem mask1_at (x : FVec Ideal S2048x128 .f32) (R : Fin 2048) (l : Fin 128) :
    k0_pay12 (F := Ideal) x (iota .tc S2048x128 32 [1] iota_S2048x128_d1_w32) (ix2 R l)
      = if 64 ≤ (l : ℕ) then x (ix2 R l) else 0 := by
  pointwise [k0_pay12]
  refine select_eq_ite ?_
  revert l; decide +kernel

/-- A row of queries or keys, rotated: each lane against its cosine, its partner 32 lanes away against its signed sine. -/
def rotated (x : Vec Ideal S1x2048x128 .f32) (cs sn : Vec Ideal S2048x128 .f32) (R : Fin 2048) (l : Fin 128) : EReal :=
  (show FVec Ideal S1x2048x128 .f32 from x) (ix3 0 R l) * (show FVec Ideal S2048x128 .f32 from cs) (ix2 R l)
    + (if (l : ℕ) % 64 < 32 then (show FVec Ideal S1x2048x128 .f32 from x) (ix3 0 R ⟨(l + 128 - 96) % 128, by omega⟩) else (show FVec Ideal S1x2048x128 .f32 from x) (ix3 0 R ⟨(l + 128 - 32) % 128, by omega⟩))
      * (show FVec Ideal S2048x128 .f32 from sn) (ix2 R l)

/-- The rotated and scaled query. -/
theorem query_at (x : Vec Ideal S1x2048x128 .f32) (cs sn : Vec Ideal S2048x128 .f32) (R : Fin 2048) (l : Fin 128) :
    k0_pay8 (F := Ideal) x cs sn (ix2 R l) = rotated x cs sn R l * Named.named (F := Ideal) κ "s" (φ := .f32) 0x3E38AA3B#32 := by
  unfold rotated
  pointwise [k0_pay8]
  rw [select_eq_ite (p := (l : ℕ) % 64 < 32)]
  revert l; decide +kernel

/-- The rotated key. -/
theorem key_at (x : Vec Ideal S1x2048x128 .f32) (cs sn : Vec Ideal S2048x128 .f32) (R : Fin 2048) (l : Fin 128) :
    k0_pay2 (F := Ideal) x cs sn (ix2 R l) = rotated x cs sn R l := by
  unfold rotated
  pointwise [k0_pay2]
  rw [select_eq_ite (p := (l : ℕ) % 64 < 32)]
  revert l; decide +kernel

/-- The learned factor of the second half-head. -/
theorem lam_at (D : Vec Ideal S4x64 .f32) (l0 : Vec Ideal S1x1 .f32) :
    k0_pay9 (F := Ideal) D l0 (ix2 0 0) = Ideal.exp (∑ x : Fin 64, (show FVec Ideal S4x64 .f32 from D) (ix2 0 x) * (show FVec Ideal S4x64 .f32 from D) (ix2 1 x))
      - Ideal.exp (∑ x : Fin 64, (show FVec Ideal S4x64 .f32 from D) (ix2 2 x) * (show FVec Ideal S4x64 .f32 from D) (ix2 3 x)) + (show FVec Ideal S1x1 .f32 from l0) (ix2 0 0) := by
  pointwise [k0_pay9]

/-- The last step: the root mean square of the row, the learned gain, and the layer's factor. -/
theorem norm_at (l0 : Vec Ideal S1x1 .f32) (o : FVec Ideal S2048x128 .f32) (g : Vec Ideal S1x128 .f32) (R : Fin 2048) (e : Fin 128) :
    k0_pay1 (F := Ideal) l0 o (mulf o o) g (ix3 0 R e)
      = o (ix2 R e) * Ideal.rsqrt (Ideal.div (∑ x : Fin 128, o (ix2 R x) * o (ix2 R x)) (Ideal.ofBits .f32 0x43000000#32) + Ideal.ofBits .f32 0x358637BD#32)
        * (show FVec Ideal S1x128 .f32 from g) (ix2 0 e) * (1 - (show FVec Ideal S1x1 .f32 from l0) (ix2 0 0)) := by
  pointwise [k0_pay1]

end Cert.KernelIdeal.Attn

end
-- ==== Proof.KernelBlock.lean ====
/- One grid point of the kernel: the keys and values that its scratch buffers hold, and the block of results. -/
module

public import proofs.«01_k».proof.Proof.KernelRow

@[expose] public section

set_option maxRecDepth 16384

noncomputable section

namespace Cert.KernelIdeal.Attn

open Idealize.ShloMosaic Idealize.ShloMosaic.TcCoe Idealize.SL.Sem
open Cert.KernelIdeal Cert.KernelIdeal.Gen

/-- The keys of one head: the latent rows rotated, then the context rows as they are. -/
def keysB (xk : Vec Ideal S1x2048x128 .f32) (ck sk : Vec Ideal S2048x128 .f32) (xc : Vec Ideal S1x256x128 .f32) : FVec Ideal S2304x128 .bf16 :=
  fun i => if h : (i 0 : ℕ) < 2048 then rotated xk ck sk ⟨i 0, h⟩ (i 1)
    else (show FVec Ideal S1x256x128 .f32 from xc) (ix3 0 ⟨i 0 - 2048, by have : (i 0 : ℕ) < 2304 := (i 0).2; omega⟩ (i 1))

/-- The values of one head in the first 128 lanes, ones in the others. -/
def valsB (xv : Vec Ideal S1x2048x128 .f32) (xc : Vec Ideal S1x256x128 .f32) : FVec Ideal S2304x256 .bf16 :=
  fun i => if h' : (i 1 : ℕ) < 128 then
      if h : (i 0 : ℕ) < 2048 then (show FVec Ideal S1x2048x128 .f32 from xv) (ix3 0 ⟨i 0, h⟩ ⟨i 1, h'⟩)
      else (show FVec Ideal S1x256x128 .f32 from xc) (ix3 0 ⟨i 0 - 2048, by have : (i 0 : ℕ) < 2304 := (i 0).2; omega⟩ ⟨i 1, h'⟩)
    else 1

section
variable (xk xv : Vec Ideal S1x2048x128 .f32) (ck sk : Vec Ideal S2048x128 .f32) (xc : Vec Ideal S1x256x128 .f32)

/-- The piece of the keys that the latent rows fill; -/
theorem keys_lat (i : S2304x128.Idx) (x : S2048x128.Idx) (h0 : (i 0 : ℕ) = x 0) (h1 : (i 1 : ℕ) = x 1) :
    k0_pay2 (F := Ideal) xk ck sk x = keysB xk ck sk xc i := by
  have hx : (x 0 : ℕ) < 2048 := (x 0).2
  unfold keysB
  rw [dif_pos (by omega)]
  idx_vars x
  rw [key_at]
  exact congrArg₂ _ (Fin.ext h0.symm) (Fin.ext h1.symm)

/-- and the piece that the context rows fill. -/
theorem keys_ctx (i : S2304x128.Idx) (x : S256x128.Idx) (h0 : (i 0 : ℕ) = 2048 + x 0) (h1 : (i 1 : ℕ) = x 1) :
    k0_pay5 (F := Ideal) xc x = keysB xk ck sk xc i := by
  unfold keysB
  rw [dif_neg (by omega)]
  idx_vars x
  pointwise [k0_pay5]
  refine congrArg₂ (fun a b => (show FVec Ideal S1x256x128 .f32 from xc) (ix3 0 a b)) (Fin.ext ?_) (Fin.ext h1.symm)
  show _ = (i 0 : ℕ) - 2048
  rw [h0]; exact (Nat.add_sub_cancel_left ..).symm

/-- The piece of the values that the latent rows fill, -/
theorem vals_lat (i : S2304x256.Idx) (x : S2048x128.Idx) (h0 : (i 0 : ℕ) = x 0) (h1 : (i 1 : ℕ) = x 1) :
    k0_pay4 (F := Ideal) (truncf .bf16 (shapeCast S2048x128 (show FVec Ideal S1x2048x128 .f32 from xv) shapeCasts_S1x2048x128_S2048x128) bitsLt_bf16_f32) x = valsB xv xc i := by
  have hx : (x 0 : ℕ) < 2048 := (x 0).2
  have hx1 : (x 1 : ℕ) < 128 := (x 1).2
  unfold valsB
  rw [dif_pos (by omega), dif_pos (by omega)]
  idx_vars x
  pointwise [k0_pay4]
  exact congrArg₂ (fun a b => (show FVec Ideal S1x2048x128 .f32 from xv) (ix3 0 a b)) (Fin.ext h0.symm) (Fin.ext h1.symm)

/-- the piece that the context rows fill, -/
theorem vals_ctx (i : S2304x256.Idx) (x : S256x128.Idx) (h0 : (i 0 : ℕ) = 2048 + x 0) (h1 : (i 1 : ℕ) = x 1) :
    k0_pay6 (F := Ideal) xc x = valsB xv xc i := by
  have hx1 : (x 1 : ℕ) < 128 := (x 1).2
  unfold valsB
  rw [dif_pos (by omega), dif_neg (by omega)]
  idx_vars x
  pointwise [k0_pay6]
  refine congrArg₂ (fun a b => (show FVec Ideal S1x256x128 .f32 from xc) (ix3 0 a b)) (Fin.ext ?_) (Fin.ext h1.symm)
  show _ = (i 0 : ℕ) - 2048
  rw [h0]; exact (Nat.add_sub_cancel_left ..).symm

/-- and the ones. -/
theorem vals_one (i : S2304x256.Idx) (x : S2304x128.Idx) (h1 : (i 1 : ℕ) = 128 + x 1) :
    k0_pay7 (F := Ideal) x = valsB xv xc i := by
  unfold valsB
  rw [dif_neg (by omega)]
  pointwise [k0_pay7]

end

/-- Row `R` and lane `e` of one head's attention, before the norm. -/
def outRow (xq xk xv : Vec Ideal S1x2048x128 .f32) (kc vc : Vec Ideal S1x256x128 .f32) (cq sq ck sk : Vec Ideal S2048x128 .f32)
    (D : Vec Ideal S4x64 .f32) (l0 : Vec Ideal S1x1 .f32) (R : Fin 2048) (e : Fin 128) : EReal :=
  row (fun l => if (l : ℕ) < 64 then rotated xq cq sq R l * Named.named (F := Ideal) κ "s" (φ := .f32) 0x3E38AA3B#32 else 0) (keysB xk ck sk kc) (valsB xv vc) e
  - k0_pay9 (F := Ideal) D l0 (ix2 0 0)
    * row (fun l => if 64 ≤ (l : ℕ) then rotated xq cq sq R l * Named.named (F := Ideal) κ "s" (φ := .f32) 0x3E38AA3B#32 else 0) (keysB xk ck sk kc) (valsB xv vc) e

/-- The rows that the body computes are these, -/
theorem rows_at (xq xk xv : Vec Ideal S1x2048x128 .f32) (kc vc : Vec Ideal S1x256x128 .f32) (cq sq ck sk : Vec Ideal S2048x128 .f32)
    (D : Vec Ideal S4x64 .f32) (l0 : Vec Ideal S1x1 .f32) (R : Fin 2048) (e : Fin 128) :
    diffRows (k0_pay9 (F := Ideal) D l0) (k0_pay11 (k0_pay8 xq cq sq) (k0_pay10 (iota .tc S2048x128 32 [1] iota_S2048x128_d1_w32)) (FloatOps.ofBits .f32 0#32))
      (k0_pay12 (k0_pay8 xq cq sq) (iota .tc S2048x128 32 [1] iota_S2048x128_d1_w32)) (keysB xk ck sk kc) (valsB xv vc) (ix2 R e)
    = outRow xq xk xv kc vc cq sq ck sk D l0 R e := by
  rw [diffRows_at]
  have h0 : ∀ l, k0_pay11 (F := Ideal) (k0_pay8 xq cq sq) (k0_pay10 (iota .tc S2048x128 32 [1] iota_S2048x128_d1_w32)) (FloatOps.ofBits .f32 0#32) (ix2 R l)
      = if (l : ℕ) < 64 then rotated xq cq sq R l * Named.named (F := Ideal) κ "s" (φ := .f32) 0x3E38AA3B#32 else 0 := fun l => by
    rw [← query_at]; exact mask0_at _ R l
  have h1 : ∀ l, k0_pay12 (F := Ideal) (k0_pay8 xq cq sq) (iota .tc S2048x128 32 [1] iota_S2048x128_d1_w32) (ix2 R l)
      = if 64 ≤ (l : ℕ) then rotated xq cq sq R l * Named.named (F := Ideal) κ "s" (φ := .f32) 0x3E38AA3B#32 else 0 := fun l => by
    rw [← query_at]; exact mask1_at _ R l
  unfold outRow
  rw [← funext h0, ← funext h1]

/-- and each result is its row's lane over the row's root mean square, times the gain and the layer's factor. -/
theorem block_at (xq xk xv : Vec Ideal S1x2048x128 .f32) (kc vc : Vec Ideal S1x256x128 .f32) (cq sq ck sk : Vec Ideal S2048x128 .f32)
    (D : Vec Ideal S4x64 .f32) (l0 : Vec Ideal S1x1 .f32) (g : Vec Ideal S1x128 .f32) (o : FVec Ideal S2048x128 .f32)
    (ho : ∀ R e, o (ix2 R e) = outRow xq xk xv kc vc cq sq ck sk D l0 R e) (R : Fin 2048) (e : Fin 128) :
    k0_pay1 (F := Ideal) l0 o (mulf o o) g (ix3 0 R e)
      = outRow xq xk xv kc vc cq sq ck sk D l0 R e
        * Ideal.rsqrt (Ideal.div (∑ x : Fin 128, outRow xq xk xv kc vc cq sq ck sk D l0 R x * outRow xq xk xv kc vc cq sq ck sk D l0 R x) (Ideal.ofBits .f32 0x43000000#32) + Ideal.ofBits .f32 0x358637BD#32)
        * (show FVec Ideal S1x128 .f32 from g) (ix2 0 e) * (1 - (show FVec Ideal S1x1 .f32 from l0) (ix2 0 0)) := by
  rw [norm_at]
  simp only [ho]

end Cert.KernelIdeal.Attn

end
-- ==== Proof.Softmax.lean ====
/- The arithmetic of one softmax row: over finite scores, the kernel's form (powers of two, one division at the
   end) and the reference's form (powers of e, every weight divided) are the same weighted mean. -/
module

public import Idealize.ShloMosaic.Lib.Pointwise

@[expose] public section

noncomputable section

namespace Cert.Attn

open Idealize.ShloMosaic

/-- The mean of the values `V` under the softmax weights of the scores `S`. -/
def softAvg {n : ℕ} (S V : Fin n → ℝ) : ℝ := (∑ s, Real.exp (S s) * V s) / ∑ s, Real.exp (S s)

/-- A finite sum of reals, taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, at least one, is a real. -/
theorem fold_max_coe_of_nonempty {ι : Type*} (P : ι → ℝ) {s : Finset ι} (hs : s.Nonempty) :
    ∃ M : ℝ, (s.fold max ⊥ fun i => ((P i : ℝ) : EReal)) = (M : EReal) := by
  induction hs using Finset.Nonempty.cons_induction with
  | singleton a => exact ⟨P a, by simp⟩
  | cons a s ha _ ih =>
    obtain ⟨M, hM⟩ := ih
    exact ⟨max (P a) M, by rw [Finset.fold_cons, hM]; exact (EReal.coe_strictMono.monotone.map_max).symm⟩

theorem fold_max_coe {n : ℕ} (hn : 0 < n) (P : Fin n → ℝ) :
    ∃ M : ℝ, (Finset.univ.fold max ⊥ fun s => ((P s : ℝ) : EReal)) = (M : EReal) :=
  haveI : Nonempty (Fin n) := ⟨⟨0, hn⟩⟩
  fold_max_coe_of_nonempty P Finset.univ_nonempty

/-- A quotient of reals with a positive divisor. -/
theorem div_coe_pos (x y : ℝ) (hy : 0 < y) : Ideal.div (x : EReal) (y : EReal) = ((x / y : ℝ) : EReal) := by
  have h : (y : EReal) ≠ 0 := by exact_mod_cast hy.ne'
  rw [Ideal.div, if_neg h, ← EReal.coe_inv, ← EReal.coe_mul, div_eq_mul_inv]

theorem sum_exp_pos {n : ℕ} (hn : 0 < n) (S : Fin n → ℝ) : 0 < ∑ s, Real.exp (S s) := by
  haveI : Nonempty (Fin n) := ⟨⟨0, hn⟩⟩
  exact Finset.sum_pos (fun s _ => Real.exp_pos _) Finset.univ_nonempty

/-- Subtracting one number from every score does not change the mean. -/
theorem softAvg_shift {n : ℕ} (S V : Fin n → ℝ) (M : ℝ) : softAvg (fun s => S s - M) V = softAvg S V := by
  unfold softAvg
  have h1 : ∀ s, Real.exp (S s - M) = Real.exp (S s) * Real.exp (-M) := fun s => by
    rw [← Real.exp_add]; ring_nf
  have h2 : (∑ s, Real.exp (S s - M) * V s) = (∑ s, Real.exp (S s) * V s) * Real.exp (-M) := by
    rw [Finset.sum_mul]; exact Finset.sum_congr rfl fun s _ => by rw [h1]; ring
  have h3 : (∑ s, Real.exp (S s - M)) = (∑ s, Real.exp (S s)) * Real.exp (-M) := by
    rw [Finset.sum_mul]; exact Finset.sum_congr rfl fun s _ => h1 s
  rw [h2, h3, mul_div_mul_right _ _ (Real.exp_pos _).ne']

/-- The mean does not depend on the order of the keys. -/
theorem softAvg_equiv {n : ℕ} (e : Fin n ≃ Fin n) (S V : Fin n → ℝ) :
    softAvg (fun s => S (e s)) (fun s => V (e s)) = softAvg S V := by
  unfold softAvg
  rw [e.sum_comp (fun s => Real.exp (S s) * V s), e.sum_comp (fun s => Real.exp (S s))]

/-- The power of two of a real. -/
theorem exp2_coe' (x : ℝ) : Ideal.exp2 (x : EReal) = ((Real.exp (x * Real.log 2) : ℝ) : EReal) := by
  show ((Real.rpow 2 x : ℝ) : EReal) = _
  congr 1
  show (2 : ℝ) ^ x = _
  rw [Real.rpow_def_of_pos (by norm_num), mul_comm]

/-- The kernel's row: powers of two of the shifted scores, against the values and against ones, then one division. -/
theorem kernel_row {n : ℕ} (hn : 0 < n) (P V : Fin n → ℝ) (M : ℝ) :
    (∑ s, Ideal.exp2 ((P s : EReal) - (M : EReal)) * (V s : EReal))
      * Ideal.div 1 (∑ s, Ideal.exp2 ((P s : EReal) - (M : EReal)) * 1)
    = ((softAvg (fun s => P s * Real.log 2) V : ℝ) : EReal) := by
  have h1 : ∀ s, Ideal.exp2 ((P s : EReal) - (M : EReal)) = ((Real.exp (P s * Real.log 2 - M * Real.log 2) : ℝ) : EReal) := fun s => by
    rw [← EReal.coe_sub, exp2_coe', sub_mul]
  simp only [h1, mul_one, ← EReal.coe_mul, coe_sum]
  rw [← EReal.coe_one, div_coe_pos _ _ (sum_exp_pos hn _), ← EReal.coe_mul, ← softAvg_shift _ V (M * Real.log 2)]
  unfold softAvg
  rw [mul_one_div]

/-- The reference's row: the weights of both softmaxes, each divided by its sum, the second weighed by `lam`
    and subtracted, then against the values. -/
theorem ref_row {n : ℕ} (hn : 0 < n) (S T V : Fin n → ℝ) (lam M N : ℝ) :
    (∑ s, (V s : EReal) * (Ideal.div (Ideal.exp ((S s : EReal) - (M : EReal))) (∑ s, Ideal.exp ((S s : EReal) - (M : EReal)))
      - (lam : EReal) * Ideal.div (Ideal.exp ((T s : EReal) - (N : EReal))) (∑ s, Ideal.exp ((T s : EReal) - (N : EReal)))))
    = ((softAvg S V - lam * softAvg T V : ℝ) : EReal) := by
  have h1 : ∀ x : ℝ, Ideal.exp (x : EReal) = ((Real.exp x : ℝ) : EReal) := fun x => rfl
  simp only [← EReal.coe_sub, h1, coe_sum, div_coe_pos _ _ (sum_exp_pos hn _), ← EReal.coe_mul]
  rw [← softAvg_shift S V M, ← softAvg_shift T V N]
  unfold softAvg
  congr 1
  rw [Finset.sum_div, Finset.sum_div, Finset.mul_sum, ← Finset.sum_sub_distrib]
  exact Finset.sum_congr rfl fun s _ => by ring

end Cert.Attn

end
-- ==== Proof.Rotary.lean ====
/- The rotary tables that the kernel's host code prepares, read at one index. -/
module

public import proofs.«01_k».proof.Proof.KernelBlock
public import proofs.«01_k».proof.Proof.Softmax

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

/-! ## The rotary tables -/

/-- The position's row in the image, `position // 64`. -/
def rowWord : IVec S2048 32 :=
  have q : IVec S2048 32 := Host.divsi (iotaInDim S2048 32 0) (broadcastInDim S2048 ![] bcast_S_S2048 (constantI S_ 32 64#32))
  select (andi (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32))) (broadcastInDim S2048 ![] bcast_S_S2048 (constantI S_ 32 0#32))))
    (subi q (broadcastInDim S2048 ![] bcast_S_S2048 (constantI S_ 32 1#32))) q

/-- The position's column, `position % 64`. -/
def colWord : IVec S2048 32 :=
  have n : IVec S_ 32 := select (cmpi .eq (constantI S_ 32 64#32) (constantI S_ 32 0#32)) (constantI S_ 32 1#32) (constantI S_ 32 64#32)
  have r : IVec S2048 32 := Host.remsi (iotaInDim S2048 32 0) (broadcastInDim S2048 ![] bcast_S_S2048 n)
  select (andi (cmpi .ne (cmpi .slt r (broadcastInDim S2048 ![] bcast_S_S2048 (constantI S_ 32 0#32)))
        (broadcastInDim S2048 ![] bcast_S_S2048 (cmpi .slt n (constantI S_ 32 0#32))))
      (cmpi .ne r (broadcastInDim S2048 ![] bcast_S_S2048 (constantI S_ 32 0#32))))
    (addi r (broadcastInDim S2048 ![] bcast_S_S2048 n)) r

/-- The sixteen frequencies. -/
def freq : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The position along one axis times the frequencies. -/
def axisAngle (w : IVec S2048 32) : FVec Ideal S2048x16 .f32 :=
  mulf (broadcastInDim S2048x16 ![0, 1] bcast_S2048x1_S2048x16_0_1 (broadcastInDim S2048x1 ![0] bcast_S2048_S2048x1_0 (sitofp .f32 w)))
    (broadcastInDim S2048x16 ![0, 1] bcast_S1x16_S2048x16_0_1 (broadcastInDim S1x16 ![1] bcast_S16_S1x16_1 freq))

/-- The 32 angles of a position. -/
def angle : FVec Ideal S2048x32 .f32 :=
  concatenate S2048x32 1 [⟨S2048x16, axisAngle rowWord⟩, ⟨S2048x16, axisAngle colWord⟩] concatenates_S2048x16_S2048x16_S2048x32_d1

/-- The cosines, four times over the 128 lanes, -/
def cosTab (a : FVec Ideal S2048x32 .f32) : FVec Ideal S2048x128 .f32 :=
  shapeCast _ (broadcastInDim S1x2048x4x32 ![0, 1, 2, 3] bcast_S1x2048x1x32_S1x2048x4x32_0_1_2_3 (shapeCast _ (Host.cos a) shapeCasts_S2048x32_S1x2048x1x32)) shapeCasts_S1x2048x4x32_S2048x128

/-- and the signed sines. -/
def sinTab (a : FVec Ideal S2048x32 .f32) : FVec Ideal S2048x128 .f32 :=
  concatenate S2048x128 1 [⟨S2048x32, Host.negf (Host.sin a)⟩, ⟨S2048x32, Host.sin a⟩, ⟨S2048x32, Host.negf (Host.sin a)⟩, ⟨S2048x32, Host.sin a⟩]
    concatenates_S2048x32_S2048x32_S2048x32_S2048x32_S2048x128_d1

theorem cosTab_at (a : FVec Ideal S2048x32 .f32) (R : Fin 2048) (l : Fin 128) : cosTab a (ix2 R l) = Ideal.cos (a (ix2 R ⟨l % 32, by omega⟩)) := by
  pointwise [cosTab]

theorem sinTab_at (a : FVec Ideal S2048x32 .f32) (R : Fin 2048) (l : Fin 128) :
    sinTab a (ix2 R l) = if (l : ℕ) % 64 < 32 then -Ideal.sin (a (ix2 R ⟨l % 32, by omega⟩)) else Ideal.sin (a (ix2 R ⟨l % 32, by omega⟩)) := by
  pointwise [sinTab]
  have hp : ∀ k k' : Fin 32, (k : ℕ) = k' → -Ideal.sin (a (ix2 R k)) = -Ideal.sin (a (ix2 R k')) := fun k k' h => by rw [Fin.ext h]
  have hq : ∀ k k' : Fin 32, (k : ℕ) = k' → Ideal.sin (a (ix2 R k)) = Ideal.sin (a (ix2 R k')) := fun k k' h => by rw [Fin.ext h]
  by_cases h : (l : ℕ) % 64 < 32
  · rw [if_pos h]
    split_ifs <;> first | exact hp _ _ (by dsimp only; omega) | (exfalso; omega)
  · rw [if_neg h]
    split_ifs <;> first | exact hq _ _ (by dsimp only; omega) | (exfalso; omega)

/-- Every angle is a real number. -/
theorem angle_real (R : Fin 2048) (x : Fin 32) : ∃ r : ℝ, angle (ix2 R x) = (r : EReal) := by
  have hf : ∀ k : Fin 16, ∃ r : ℝ, freq (ix1 k) = (r : EReal) := fun k => by
    pointwise [freq]
    have h1 : Ideal.ofBits FTy.f32 0x461C4000#32 = ((10000 : ℝ) : EReal) := by simp [Ideal.ofBits, Ideal.ieee, -EReal.coe_mul]; norm_num
    have h2 : Ideal.ofBits FTy.f32 0x41800000#32 = ((16 : ℝ) : EReal) := by simp [Ideal.ofBits, Ideal.ieee, -EReal.coe_mul]; norm_num
    rw [h1, h2]
    refine ⟨Real.rpow 10000 (-((BitVec.ofNat 32 (k : ℕ)).toInt : ℝ) / 16), ?_⟩
    rw [show (FloatOps.sitofp FTy.f32 (BitVec.ofNat 32 (k : ℕ)) : Ideal .f32) = (((BitVec.ofNat 32 (k : ℕ)).toInt : ℝ) : EReal) from rfl,
      ← EReal.coe_neg, Cert.Attn.div_coe_pos _ _ (by norm_num)]
    rfl
  have ha : ∀ (w : IVec S2048 32) (k : Fin 16), ∃ r : ℝ, axisAngle w (ix2 R k) = (r : EReal) := fun w k => by
    obtain ⟨r, hr⟩ := hf k
    refine ⟨(w (ix1 R)).toInt * r, ?_⟩
    rw [EReal.coe_mul, ← hr]
    pointwise [axisAngle]
    rfl
  by_cases hx : (x : ℕ) < 16
  · obtain ⟨r, hr⟩ := ha rowWord ⟨x, hx⟩
    refine ⟨r, ?_⟩
    rw [← hr]
    pointwise [angle]
    exact dif_pos hx
  · obtain ⟨r, hr⟩ := ha colWord ⟨x - 16, by omega⟩
    refine ⟨r, ?_⟩
    rw [← hr]
    pointwise [angle]
    exact dif_neg hx

end Cert.KernelIdeal.Attn

end
-- ==== Proof.KernelEntry.lean ====
/- What the kernel's windows hold: the tables that the host code prepares. -/
module

public import proofs.«01_k».proof.Proof.Gen.KernelIdeal.Frame
public import proofs.«01_k».proof.Proof.Rotary

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The host operations up to the angles, -/
abbrev opsAngle : List (HloOp τ sig (Elt Ideal)) := hostOps0 ++ (hostOps0_1 ++ (hostOps0_2 ++ (hostOps0_3 ++ (hostOps0_4 (F := Ideal)).take 20)))
/-- and those that follow. -/
abbrev opsTables : List (HloOp τ sig (Elt Ideal)) := (hostOps0_4 (F := Ideal)).drop 20

set_option maxHeartbeats 1600000 in
/-- The first compute the angles; -/
theorem entry_angle (σ : Valuation τ sig (Elt Ideal)) : StableHlo.after opsAngle σ main_v22 = angle := by
  simp only [opsAngle, hostOps0, hostOps0_1, hostOps0_2, hostOps0_3, hostOps0_4, List.take_succ_cons, List.take_zero, List.cons_append, List.nil_append]
  entry_read
  try simp only [StableHlo.TRef.ofBuf, StableHlo.TRef.toBuf, cast_eq]
  rfl

/-- The last operation, -/
theorem last_sin (W : Valuation τ sig (Elt Ideal)) : StableHlo.after ((hostOps0_4 (F := Ideal)).drop 27) W main_v30
    = concatenate S2048x128 1 [⟨S2048x32, (W main_v28 : FVec Ideal S2048x32 .f32)⟩, ⟨S2048x32, (W main_v24 : FVec Ideal S2048x32 .f32)⟩, ⟨S2048x32, (W main_v29 : FVec Ideal S2048x32 .f32)⟩, ⟨S2048x32, (W main_v24 : FVec Ideal S2048x32 .f32)⟩]
      concatenates_S2048x32_S2048x32_S2048x32_S2048x32_S2048x128_d1 := by
  rfl

/-- and those before it. -/
theorem mid_sin (W : Valuation τ sig (Elt Ideal)) : StableHlo.after (((hostOps0_4 (F := Ideal)).drop 20).take 7) W main_v24 = (Host.sin (W main_v22 : FVec Ideal S2048x32 .f32) : FVec Ideal S2048x32 .f32)
    ∧ StableHlo.after (((hostOps0_4 (F := Ideal)).drop 20).take 7) W main_v28 = (Host.negf (Host.sin (W main_v22 : FVec Ideal S2048x32 .f32)) : FVec Ideal S2048x32 .f32)
    ∧ StableHlo.after (((hostOps0_4 (F := Ideal)).drop 20).take 7) W main_v29 = (Host.negf (Host.sin (W main_v22 : FVec Ideal S2048x32 .f32)) : FVec Ideal S2048x32 .f32) := by
  refine ⟨?_, ?_, ?_⟩ <;>
  · simp only [hostOps0_4, List.drop_succ_cons, List.drop_zero, List.take_succ_cons, List.take_zero]
    entry_read
    try rfl

/-- the others the signed sine table from them. -/
theorem tables_sin (W : Valuation τ sig (Elt Ideal)) : StableHlo.after opsTables W main_v30 = sinTab (W main_v22) := by
  have h : StableHlo.after opsTables W = StableHlo.after ((hostOps0_4 (F := Ideal)).drop 27) (StableHlo.after (((hostOps0_4 (F := Ideal)).drop 20).take 7) W) := by
    rw [← StableHlo.after_append]
    rfl
  obtain ⟨h24, h28, h29⟩ := mid_sin W
  rw [h, last_sin, h24, h28, h29]
  rfl

/-- the signed sine table, -/
theorem entry_sin (c : Dev nD) : V m c main_v30 = sinTab angle := by
  rw [← entry_angle fun b => m (c, b), ← tables_sin, ← StableHlo.after_append]
  rfl

/-- and the cosine table from them. -/
theorem tables_cos (W : Valuation τ sig (Elt Ideal)) : StableHlo.after opsTables W main_v27 = cosTab (W main_v22) := by
  simp only [opsTables, hostOps0_4, List.drop_succ_cons, List.drop_zero]
  entry_read
  rfl

/-- the cosine table, -/
theorem entry_cos (c : Dev nD) : V m c main_v27 = cosTab angle := by
  rw [← entry_angle fun b => m (c, b), ← tables_cos, ← StableHlo.after_append]
  rfl

set_option maxHeartbeats 1600000 in
/-- and the gain as a row. -/
theorem entry_gain (c : Dev nD) : V m c main_v0 = broadcastInDim S1x128 ![1] bcast_S128_S1x128_1 (m ((c : Thread nD τ).loc main_arg3) : FVec Ideal S128 .f32) := by
  simp only [V, hostOps0, hostOps0_1, hostOps0_2, hostOps0_3, hostOps0_4, List.flatten_cons, List.flatten_nil, List.append_nil, List.cons_append, List.nil_append]
  entry_read
  rfl

end Cert.KernelIdeal.Attn

end
-- ==== Proof.KernelBlocks.lean ====
/- What the kernel's windows hold: the blocks of the arrays at a grid point. -/
module

public import proofs.«01_k».proof.Proof.KernelEntry

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The index maps: batch row, head, and the third of the columns. -/
theorem idx : ∀ t : Fin cfg0.N, win0_0.index t = ![(t : ℕ) / 8, 0, t % 8] ∧ win0_1.index t = ![(t : ℕ) / 8, 0, 8 + t % 8]
    ∧ win0_2.index t = ![(t : ℕ) / 8, 0, 16 + t % 8] ∧ win0_3.index t = ![(t : ℕ) / 8, 0, 8 + t % 8] ∧ win0_4.index t = ![(t : ℕ) / 8, 0, 16 + t % 8]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![(t : ℕ) / 8, 0, t % 8] :=
  (by decide +kernel : ∀ t : Fin grid0.N, _)

/-- The latent rows of one batch element and one head, `k` heads further. -/
def latB (Q : FVec Ideal S16x2048x3072 .f32) (b : Fin 16) (h : Fin 8) (k : ℕ) (hk : k ≤ 16) : Vec Ideal S1x2048x128 .f32 :=
  fun i => Q (ix3 b (i 1) ⟨(k + h) * 128 + i 2, by have : (i 2 : ℕ) < 128 := (i 2).2; omega⟩)
/-- The context rows likewise. -/
def ctxB (C : FVec Ideal S16x256x3072 .f32) (b : Fin 16) (h : Fin 8) (k : ℕ) (hk : k ≤ 16) : Vec Ideal S1x256x128 .f32 :=
  fun i => C (ix3 b (i 1) ⟨(k + h) * 128 + i 2, by have : (i 2 : ℕ) < 128 := (i 2).2; omega⟩)

section
variable (c : Dev nD) (t : Fin cfg0.N)

theorem lt128 : (t : ℕ) < 128 := t.2

theorem blk0 : (iblk m c 0 t : Vec Ideal S1x2048x128 .f32) = latB (m ((c : Thread nD τ).loc main_arg0)) ⟨t / 8, by have := lt128 t; omega⟩ ⟨t % 8, by omega⟩ 0 (by omega) := by
  funext i
  idx_vars i
  unfold latB
  blk_simp [iblk, idx t]
  rw [V_main_arg0]
  blk_point [idx t]

theorem blk1 : (iblk m c 1 t : Vec Ideal S1x2048x128 .f32) = latB (m ((c : Thread nD τ).loc main_arg0)) ⟨t / 8, by have := lt128 t; omega⟩ ⟨t % 8, by omega⟩ 8 (by omega) := by
  funext i
  idx_vars i
  unfold latB
  blk_simp [iblk, idx t]
  rw [V_main_arg0]
  blk_point [idx t]

theorem blk2 : (iblk m c 2 t : Vec Ideal S1x2048x128 .f32) = latB (m ((c : Thread nD τ).loc main_arg0)) ⟨t / 8, by have := lt128 t; omega⟩ ⟨t % 8, by omega⟩ 16 (by omega) := by
  funext i
  idx_vars i
  unfold latB
  blk_simp [iblk, idx t]
  rw [V_main_arg0]
  blk_point [idx t]

theorem blk3 : (iblk m c 3 t : Vec Ideal S1x256x128 .f32) = ctxB (m ((c : Thread nD τ).loc main_arg1)) ⟨t / 8, by have := lt128 t; omega⟩ ⟨t % 8, by omega⟩ 8 (by omega) := by
  funext i
  idx_vars i
  unfold ctxB
  blk_simp [iblk, idx t]
  rw [V_main_arg1]
  blk_point [idx t]

theorem blk4 : (iblk m c 4 t : Vec Ideal S1x256x128 .f32) = ctxB (m ((c : Thread nD τ).loc main_arg1)) ⟨t / 8, by have := lt128 t; omega⟩ ⟨t % 8, by omega⟩ 16 (by omega) := by
  funext i
  idx_vars i
  unfold ctxB
  blk_simp [iblk, idx t]
  rw [V_main_arg1]
  blk_point [idx t]

theorem blk5 : (iblk m c 5 t : Vec Ideal S2048x128 .f32) = cosTab angle := by
  funext i
  idx_vars i
  blk_simp [iblk, idx t]
  rw [entry_cos]
  generalize cosTab angle = T
  blk_point [idx t]

theorem blk6 : (iblk m c 6 t : Vec Ideal S2048x128 .f32) = sinTab angle := by
  funext i
  idx_vars i
  blk_simp [iblk, idx t]
  rw [entry_sin]
  generalize sinTab angle = T
  blk_point [idx t]

theorem blk7 : (iblk m c 7 t : Vec Ideal S2048x128 .f32) = cosTab angle := by
  funext i
  idx_vars i
  blk_simp [iblk, idx t]
  rw [entry_cos]
  generalize cosTab angle = T
  blk_point [idx t]

theorem blk8 : (iblk m c 8 t : Vec Ideal S2048x128 .f32) = sinTab angle := by
  funext i
  idx_vars i
  blk_simp [iblk, idx t]
  rw [entry_sin]
  generalize sinTab angle = T
  blk_point [idx t]

theorem blk9 : (iblk m c 9 t : Vec Ideal S4x64 .f32) = m ((c : Thread nD τ).loc main_arg2) := by
  funext i
  idx_vars i
  blk_simp [iblk, idx t]
  rw [V_main_arg2]
  blk_point [idx t]

theorem blk10 : (iblk m c 10 t : Vec Ideal S1x1 .f32) = m ((c : Thread nD τ).loc main_arg4) := by
  funext i
  idx_vars i
  blk_simp [iblk, idx t]
  rw [V_main_arg4]
  blk_point [idx t]

theorem blk11 (e : Fin 128) : (show FVec Ideal S1x128 .f32 from iblk m c 11 t) (ix2 0 e) = (m ((c : Thread nD τ).loc main_arg3) : FVec Ideal S128 .f32) (ix1 e) := by
  have hT : broadcastInDim S1x128 ![1] bcast_S128_S1x128_1 (m ((c : Thread nD τ).loc main_arg3) : FVec Ideal S128 .f32) (ix2 0 e) = (m ((c : Thread nD τ).loc main_arg3) : FVec Ideal S128 .f32) (ix1 e) := by
    generalize (m ((c : Thread nD τ).loc main_arg3) : FVec Ideal S128 .f32) = g
    pointwise
  rw [← hT]
  blk_simp [iblk, idx t]
  rw [entry_gain]
  generalize broadcastInDim S1x128 ![1] bcast_S128_S1x128_1 (m ((c : Thread nD τ).loc main_arg3) : FVec Ideal S128 .f32) = T
  blk_point [idx t]

end

end Cert.KernelIdeal.Attn

end
-- ==== Proof.KernelValue.lean ====
/- The kernel's result array: at every batch element, row and column the normalised attention of its head. -/
module

public import proofs.«01_k».proof.Proof.Gen.KernelIdeal.Value
public import proofs.«01_k».proof.Proof.KernelBlocks
public import proofs.«01_k».proof.Proof.KernelBlock

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

/-- Row `R` and lane `e` of head `h` of batch element `b`, before the norm. -/
def headRow (Q : FVec Ideal S16x2048x3072 .f32) (C : FVec Ideal S16x256x3072 .f32) (D : FVec Ideal S4x64 .f32) (l0 : FVec Ideal S1x1 .f32)
    (b : Fin 16) (h : Fin 8) (R : Fin 2048) (e : Fin 128) : EReal :=
  outRow (latB Q b h 0 (by omega)) (latB Q b h 8 (by omega)) (latB Q b h 16 (by omega)) (ctxB C b h 8 (by omega)) (ctxB C b h 16 (by omega))
    (cosTab angle) (sinTab angle) (cosTab angle) (sinTab angle) D l0 R e

/-- The kernel's result at batch element `b`, row `R`, head `h`, lane `e`. -/
def headOut (Q : FVec Ideal S16x2048x3072 .f32) (C : FVec Ideal S16x256x3072 .f32) (D : FVec Ideal S4x64 .f32) (g : FVec Ideal S128 .f32)
    (l0 : FVec Ideal S1x1 .f32) (b : Fin 16) (h : Fin 8) (R : Fin 2048) (e : Fin 128) : EReal :=
  headRow Q C D l0 b h R e
    * Ideal.rsqrt (Ideal.div (∑ x : Fin 128, headRow Q C D l0 b h R x * headRow Q C D l0 b h R x) (Ideal.ofBits .f32 0x43000000#32) + Ideal.ofBits .f32 0x358637BD#32)
    * g (ix1 e) * (1 - l0 (ix2 0 0))

/-- The whole array. -/
def arrOut (Q : FVec Ideal S16x2048x3072 .f32) (C : FVec Ideal S16x256x3072 .f32) (D : FVec Ideal S4x64 .f32) (g : FVec Ideal S128 .f32)
    (l0 : FVec Ideal S1x1 .f32) : FVec Ideal S16x2048x1024 .bf16 :=
  fun i => headOut Q C D g l0 (i 0) ⟨(i 2 : ℕ) / 128, by have : (i 2 : ℕ) < 1024 := (i 2).2; omega⟩ (i 1) ⟨(i 2 : ℕ) % 128, by omega⟩

theorem arrOut_at (Q : FVec Ideal S16x2048x3072 .f32) (C : FVec Ideal S16x256x3072 .f32) (D : FVec Ideal S4x64 .f32) (g : FVec Ideal S128 .f32)
    (l0 : FVec Ideal S1x1 .f32) (b : Fin 16) (h : Fin 8) (R : Fin 2048) (e : Fin 128) (i : S16x2048x1024.Idx)
    (h0 : (i 0 : ℕ) = b) (h1 : (i 1 : ℕ) = R) (h2 : (i 2 : ℕ) = h * 128 + e) : arrOut Q C D g l0 i = headOut Q C D g l0 b h R e := by
  unfold arrOut
  congr 1
  · exact Fin.ext h0
  · exact Fin.ext (show (i 2 : ℕ) / 128 = h by omega)
  · exact Fin.ext h1
  · exact Fin.ext (show (i 2 : ℕ) % 128 = e by omega)

variable (m : (ℓ : Loc nD τ sig) → Buf (Elt Ideal) ℓ)

set_option maxHeartbeats 1600000 in
/-- What the run leaves in the result array. -/
theorem final (c : Dev nD) : (dats m 0 c).arrAt 12 cfg0.N
    = arrOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 12 _ (by decide +kernel) fun t _ y => ?_
  blk_simp
  rw [after0_12]
  unfold outsAt0
  frame_out
  generalize hkb : View.readCov (Val := Elt Ideal) _ _ _ = kb
  generalize hva : View.readCov (Val := Elt Ideal) _ _ _ = va
  rw [rows_eq, squares_eq]
  have hk : kb = keysB (iblk m c 1 t) (iblk m c 7 t) (iblk m c 8 t) (iblk m c 3 t) := by
    rw [← hkb, View.readCov_eq_canon']
    clear hkb hva
    funext i
    show View.canon _ _ = _
    have c0 : (i 0 : ℕ) < 2304 := (i 0).2
    have c1 : (i 1 : ℕ) < 128 := (i 1).2
    have inb : ∀ a, (![0, 0] : Fin S2304x128.rank → ℕ) a + (![2048, 128] : Fin S2304x128.rank → ℕ) a ≤ S2304x128.size a := by decide
    canon_tiles x h using (by
      by_cases hlt : (i 0 : ℕ) < 2048
      · refine ⟨_, .tail _ (.head _), ?_⟩
        refine (Rect.mem_set_unit (inb := inb)).2 ?_
        intro a
        match a with
        | 0 => exact ⟨Nat.zero_le _, by simp [Rect.idx_unit_val]; omega⟩
        | 1 => exact ⟨Nat.zero_le _, by simp [Rect.idx_unit_val]; omega⟩
      · refine ⟨_, .head _, ?_⟩
        refine (Rect.mem_set_unit (inb := inb_S2304x128_S256x128_2048_0)).2 ?_
        intro a
        match a with
        | 0 => exact ⟨by simp [Rect.idx_unit_val]; omega, by simp [Rect.idx_unit_val]; omega⟩
        | 1 => exact ⟨Nat.zero_le _, by simp [Rect.idx_unit_val]; omega⟩)
    case piece0 => exact keys_ctx _ _ _ _ _ _ (by simpa using h0) (by simpa using h1)
    case piece1 => exact keys_lat _ _ _ _ _ _ (by simpa using h0) (by simpa using h1)
  have hv : va = valsB (iblk m c 2 t) (iblk m c 4 t) := by
    rw [← hva, View.readCov_eq_canon']
    clear hkb hva
    funext i
    show View.canon _ _ = _
    have c0 : (i 0 : ℕ) < 2304 := (i 0).2
    have c1 : (i 1 : ℕ) < 256 := (i 1).2
    canon_tiles x h using (by
      by_cases hl : (i 1 : ℕ) < 128
      · by_cases hlt : (i 0 : ℕ) < 2048
        · refine ⟨_, .tail _ (.tail _ (.head _)), ?_⟩
          refine (Rect.mem_set_unit (inb := inb_S2304x256_S2048x128_0_0)).2 ?_
          intro a
          match a with
          | 0 => exact ⟨Nat.zero_le _, by simp [Rect.idx_unit_val]; omega⟩
          | 1 => exact ⟨Nat.zero_le _, by simp [Rect.idx_unit_val]; omega⟩
        · refine ⟨_, .tail _ (.head _), ?_⟩
          refine (Rect.mem_set_unit (inb := inb_S2304x256_S256x128_2048_0)).2 ?_
          intro a
          match a with
          | 0 => exact ⟨by simp [Rect.idx_unit_val]; omega, by simp [Rect.idx_unit_val]; omega⟩
          | 1 => exact ⟨Nat.zero_le _, by simp [Rect.idx_unit_val]; omega⟩
      · refine ⟨_, .head _, ?_⟩
        refine (Rect.mem_set_unit (inb := inb_S2304x256_S2304x128_0_128)).2 ?_
        intro a
        match a with
        | 0 => exact ⟨Nat.zero_le _, by simp [Rect.idx_unit_val]; omega⟩
        | 1 => exact ⟨by simp [Rect.idx_unit_val]; omega, by simp [Rect.idx_unit_val]; omega⟩)
    case piece0 => exact vals_one _ _ _ _ (by simpa using h1)
    case piece1 => exact vals_ctx _ _ _ _ (by simpa using h0) (by simpa using h1)
    case piece2 => exact vals_lat _ _ _ _ (by simpa using h0) (by simpa using h1)
  clear hkb hva
  subst hk hv
  rw [blk0, blk1, blk2, blk3, blk4, blk5, blk6, blk7, blk8, blk9, blk10]
  obtain ⟨R, e, rfl⟩ : ∃ (R : Fin 2048) (e : Fin 128), y = ix3 0 R e := by
    have h0 : (y 0 : ℕ) < 1 := (y 0).2
    refine ⟨y 1, y 2, ?_⟩
    funext a
    match a with
    | 0 => exact Fin.ext (show (y 0 : ℕ) = 0 by omega)
    | 1 => rfl
    | 2 => rfl
  rw [block_at _ _ _ _ _ _ _ _ _ _ _ _ _ fun R e => rows_at _ _ _ _ _ _ _ _ _ _ _ R e]
  rw [blk11]
  refine (arrOut_at _ _ _ _ _ _ _ _ _ _ ?_ ?_ ?_).symm
  · blk_simp [idx t]
    exact Nat.add_zero _
  · blk_simp [idx t]
  · blk_simp [idx t]

end Cert.KernelIdeal.Attn

end
-- ==== Proof.Head.lean ====
/- One head of the attention over the real numbers: the rotation of the rows, the half-heads as masked dot products,
   and the two orders of the keys. -/
module

public import proofs.«01_k».proof.Proof.Softmax

@[expose] public section

noncomputable section

namespace Cert.Attn

open Idealize.ShloMosaic

/-- A row of 128 lanes rotated in pairs 32 lanes apart, within each half-head of 64 lanes. -/
def rot {n : ℕ} (x : Fin n → Fin 128 → ℝ) (c s : Fin n → Fin 32 → ℝ) (t : Fin n) (l : Fin 128) : ℝ :=
  if (l : ℕ) % 64 < 32 then x t l * c t ⟨l % 32, by omega⟩ - x t ⟨(l + 32) % 128, by omega⟩ * s t ⟨l % 32, by omega⟩
  else x t ⟨(l + 96) % 128, by omega⟩ * s t ⟨l % 32, by omega⟩ + x t l * c t ⟨l % 32, by omega⟩

/-- A dot product over the lanes of half-head `u` alone, as a masked product over all lanes. -/
theorem half_sum (q k : Fin 128 → ℝ) (a : ℝ) (u : Fin 2) :
    (∑ l : Fin 128, (if (l : ℕ) / 64 = u then q l * a else 0) * k l)
      = ((∑ x : Fin 32, q ⟨u * 64 + x, by omega⟩ * k ⟨u * 64 + x, by omega⟩)
        + ∑ x : Fin 32, q ⟨u * 64 + (32 + x), by omega⟩ * k ⟨u * 64 + (32 + x), by omega⟩) * a := by
  have split : ∀ f : Fin 128 → ℝ, ∑ l, f l = ((∑ x : Fin 32, f ⟨0 + x, by omega⟩) + ∑ x : Fin 32, f ⟨32 + x, by omega⟩)
      + ((∑ x : Fin 32, f ⟨64 + x, by omega⟩) + ∑ x : Fin 32, f ⟨96 + x, by omega⟩) := fun f => by
    rw [Fin.sum_univ_add (a := 64) (b := 64) f, Fin.sum_univ_add (a := 32) (b := 32), Fin.sum_univ_add (a := 32) (b := 32)]
    refine congrArg₂ (· + ·) (congrArg₂ (· + ·) ?_ ?_) (congrArg₂ (· + ·) ?_ ?_) <;>
      refine Finset.sum_congr rfl fun x _ => congrArg f (Fin.ext ?_) <;> simp [Fin.natAdd, Fin.castAdd] <;> omega
  have on : ∀ (o : ℕ) (ho : o + 32 ≤ 128), o / 32 * 32 = o → o / 64 = u → (∑ x : Fin 32, (if (o + x : ℕ) / 64 = u then q ⟨o + x, by omega⟩ * a else 0) * k ⟨o + x, by omega⟩)
      = (∑ x : Fin 32, q ⟨o + x, by omega⟩ * k ⟨o + x, by omega⟩) * a := fun o ho h h' => by
    rw [Finset.sum_mul]
    refine Finset.sum_congr rfl fun x _ => ?_
    rw [if_pos (by omega)]; ring
  have off : ∀ (o : ℕ) (ho : o + 32 ≤ 128), o / 32 * 32 = o → o / 64 ≠ u → (∑ x : Fin 32, (if (o + x : ℕ) / 64 = u then q ⟨o + x, by omega⟩ * a else 0) * k ⟨o + x, by omega⟩) = 0 := fun o ho h h' =>
    Finset.sum_eq_zero fun x _ => by rw [if_neg (by omega), zero_mul]
  rw [split]
  dsimp only
  obtain h | h : (u : ℕ) = 0 ∨ (u : ℕ) = 1 := by omega
  · rw [on 0 (by omega) rfl (by omega), on 32 (by omega) rfl (by omega), off 64 (by omega) rfl (by omega), off 96 (by omega) rfl (by omega), add_zero, add_zero, ← add_mul]
    refine congrArg (· * a) (congrArg₂ (· + ·) ?_ ?_) <;> refine Finset.sum_congr rfl fun x _ => ?_ <;>
      exact congrArg₂ (· * ·) (congrArg q (Fin.ext (by dsimp only; omega))) (congrArg k (Fin.ext (by dsimp only; omega)))
  · rw [off 0 (by omega) rfl (by omega), off 32 (by omega) rfl (by omega), on 64 (by omega) rfl (by omega), on 96 (by omega) rfl (by omega), add_zero, zero_add, ← add_mul]
    refine congrArg (· * a) (congrArg₂ (· + ·) ?_ ?_) <;> refine Finset.sum_congr rfl fun x _ => ?_ <;>
      exact congrArg₂ (· * ·) (congrArg q (Fin.ext (by dsimp only; omega))) (congrArg k (Fin.ext (by dsimp only; omega)))

/-- The mean over the keys in the kernel's order, its scores in powers of two, and in the reference's order: key `s` of the
    first is key `s + 256` of the second. -/
theorem head_eq (q : Fin 128 → ℝ) (k : Fin 2304 → Fin 128 → ℝ) (v : Fin 2304 → ℝ) (u : Fin 2) :
    softAvg (fun s => (∑ l : Fin 128, (if (l : ℕ) / 64 = u then q l * (8 * Real.log 2)⁻¹ else 0) * k (s + 256) l) * Real.log 2) (fun s => v (s + 256))
      = softAvg (fun s => ((∑ x : Fin 32, q ⟨u * 64 + x, by omega⟩ * k s ⟨u * 64 + x, by omega⟩)
        + ∑ x : Fin 32, q ⟨u * 64 + (32 + x), by omega⟩ * k s ⟨u * 64 + (32 + x), by omega⟩) * (1 / 8)) v := by
  rw [← softAvg_equiv (Equiv.addRight 256) _ v]
  congr 1
  funext s
  rw [half_sum, Equiv.coe_addRight]
  have h : Real.log 2 ≠ 0 := (Real.log_pos (by norm_num)).ne'
  field_simp

end Cert.Attn

end
-- ==== Proof.Reals.lean ====
/- One head of the attention over the real numbers, as both programs compute it: the rotated queries and keys, the scores of
   the two half-heads, and the difference of the two softmax means of the values. -/
module

public import proofs.«01_k».proof.Proof.Head

@[expose] public section

noncomputable section

namespace Cert.Attn

open Idealize.ShloMosaic

/-- Head `h` of the rows `X`: the 128 columns from column `o + h * 128` on. -/
def lanes {n : ℕ} (X : Fin n → Fin 3072 → ℝ) (o : ℕ) (ho : o ≤ 2048) (h : Fin 8) (t : Fin n) (l : Fin 128) : ℝ :=
  X t ⟨o + (h * 128 + l), by omega⟩

section
variable (X : Fin 2048 → Fin 3072 → ℝ) (Y : Fin 256 → Fin 3072 → ℝ) (A : Fin 2048 → Fin 32 → ℝ) (h : Fin 8)

/-- The rotated latent lanes, by the angles `A`. -/
def turned (o : ℕ) (ho : o ≤ 2048) : Fin 2048 → Fin 128 → ℝ :=
  rot (lanes X o ho h) (fun t x => Real.cos (A t x)) (fun t x => Real.sin (A t x))

/-- The keys: the context's as they are, then the latent ones rotated. -/
def keyR (s : Fin 2304) (l : Fin 128) : ℝ :=
  if hs : (s : ℕ) < 256 then lanes Y 1024 (by omega) h ⟨s, hs⟩ l else turned X A h 1024 (by omega) ⟨s - 256, by omega⟩ l

/-- The values: the context's, then the latent ones. -/
def valR (e : Fin 128) (s : Fin 2304) : ℝ :=
  if hs : (s : ℕ) < 256 then lanes Y 2048 (by omega) h ⟨s, hs⟩ e else lanes X 2048 (by omega) h ⟨s - 256, by omega⟩ e

/-- The score of query row `t` against key `s` in half-head `u`. -/
def scoreR (u : Fin 2) (t : Fin 2048) (s : Fin 2304) : ℝ :=
  ((∑ x : Fin 32, turned X A h 0 (by omega) t ⟨u * 64 + x, by omega⟩ * keyR X Y A h s ⟨u * 64 + x, by omega⟩)
    + ∑ x : Fin 32, turned X A h 0 (by omega) t ⟨u * 64 + (32 + x), by omega⟩ * keyR X Y A h s ⟨u * 64 + (32 + x), by omega⟩) * (1 / 8)

/-- The head's row: the mean of the values by the first half-head's weights minus `lam` times that by the second's. -/
def attnR (lam : ℝ) (t : Fin 2048) (e : Fin 128) : ℝ :=
  softAvg (scoreR X Y A h 0 t) (valR X Y h e) - lam * softAvg (scoreR X Y A h 1 t) (valR X Y h e)

end

/-- The learned factor of the second half-head. -/
def lamR (D : Fin 4 → Fin 64 → ℝ) (l0 : ℝ) : ℝ := Real.exp (∑ x, D 0 x * D 1 x) - Real.exp (∑ x, D 2 x * D 3 x) + l0

theorem sum_coe_mul {n : ℕ} (f g : Fin n → ℝ) : (∑ x, (f x : EReal) * (g x : EReal)) = ((∑ x, f x * g x : ℝ) : EReal) := by
  rw [← coe_sum]
  exact Finset.sum_congr rfl fun x _ => (EReal.coe_mul _ _).symm

theorem ofBits_bot : Ideal.ofBits FTy.f32 0xFF800000#32 = ⊥ := by simp [Ideal.ofBits, Ideal.ieee]
theorem ofBits_eighth : Ideal.ofBits FTy.f32 0x3E000000#32 = ((1 / 8 : ℝ) : EReal) := by
  simp [Ideal.ofBits, Ideal.ieee, -EReal.coe_mul]; norm_num

/-- Where key `s` of the kernel's order (latent keys first) stands in the reference's order. -/
theorem shift_val (s : Fin 2304) : ((s + 256 : Fin 2304) : ℕ) = if (s : ℕ) < 2048 then (s : ℕ) + 256 else (s : ℕ) - 2048 := by
  have h : ((s + 256 : Fin 2304) : ℕ) = ((s : ℕ) + 256) % 2304 := by rw [Fin.val_add]; rfl
  rw [h]; split_ifs <;> omega

end Cert.Attn

end
-- ==== Proof.KernelReal.lean ====
/- The kernel's rows over the real numbers. -/
module

public import proofs.«01_k».proof.Proof.KernelValue
public import proofs.«01_k».proof.Proof.Reals

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

/-- A row over real queries, keys and values. -/
theorem row_coe (q : Fin 128 → EReal) (kb : FVec Ideal S2304x128 .bf16) (va : FVec Ideal S2304x256 .bf16) (e : Fin 128)
    (Q : Fin 128 → ℝ) (K : Fin 2304 → Fin 128 → ℝ) (W : Fin 2304 → ℝ) (hq : ∀ l, q l = (Q l : EReal)) (hk : ∀ s l, kb (ix2 s l) = (K s l : EReal))
    (hv : ∀ s, va (ix2 s ⟨e, by omega⟩) = (W s : EReal)) (h1 : ∀ s, va (ix2 s 128) = 1) :
    row q kb va e = ((softAvg (fun s => (∑ l, Q l * K s l) * Real.log 2) W : ℝ) : EReal) := by
  have hP : ∀ s, (∑ l : Fin 128, q l * kb (ix2 s l)) = ((∑ l, Q l * K s l : ℝ) : EReal) := fun s => by
    rw [← sum_coe_mul]
    exact Finset.sum_congr rfl fun l _ => by rw [hq, hk]
  unfold row
  simp only [hP, hv, h1]
  rw [ofBits_bot]
  obtain ⟨M, hM⟩ := fold_max_coe (n := 2304) (by norm_num) fun s => ∑ l, Q l * K s l
  rw [hM]
  exact kernel_row (by norm_num) _ _ _

section
variable (Q : FVec Ideal S16x2048x3072 .f32) (C : FVec Ideal S16x256x3072 .f32) (D : FVec Ideal S4x64 .f32) (l0 : FVec Ideal S1x1 .f32)
  (X : Fin 16 → Fin 2048 → Fin 3072 → ℝ) (Y : Fin 16 → Fin 256 → Fin 3072 → ℝ) (A : Fin 2048 → Fin 32 → ℝ) (D' : Fin 4 → Fin 64 → ℝ) (l0' : ℝ)
  (hQ : ∀ b t j, Q (ix3 b t j) = (X b t j : EReal)) (hC : ∀ b s (j : Fin 3072), 1024 ≤ (j : ℕ) → C (ix3 b s j) = (Y b s j : EReal))
  (hA : ∀ t x, angle (ix2 t x) = (A t x : EReal)) (hD : ∀ i j, D (ix2 i j) = (D' i j : EReal)) (h0 : l0 (ix2 0 0) = (l0' : EReal))

include hQ in
/-- The latent lanes. -/
theorem latB_real (b : Fin 16) (h : Fin 8) (k o : ℕ) (hk : k ≤ 16) (ho : o ≤ 2048) (hko : o = k * 128) (t : Fin 2048) (l : Fin 128) :
    (show FVec Ideal S1x2048x128 .f32 from latB Q b h k hk) (ix3 0 t l) = (lanes (X b) o ho h t l : EReal) := by
  show Q (ix3 b t _) = _
  rw [hQ]
  unfold lanes
  exact congrArg (fun j => ((X b t j : ℝ) : EReal)) (Fin.ext (show (k + h) * 128 + (l : ℕ) = o + (h * 128 + l) by omega))

include hC in
/-- The context's lanes. -/
theorem ctxB_real (b : Fin 16) (h : Fin 8) (k o : ℕ) (hk : k ≤ 16) (ho : o ≤ 2048) (hko : o = k * 128) (h8 : 8 ≤ k) (t : Fin 256) (l : Fin 128) :
    (show FVec Ideal S1x256x128 .f32 from ctxB C b h k hk) (ix3 0 t l) = (lanes (Y b) o ho h t l : EReal) := by
  show C (ix3 b t ⟨(k + h) * 128 + l, _⟩) = _
  rw [hC _ _ _ (show 1024 ≤ (k + h) * 128 + (l : ℕ) by omega)]
  unfold lanes
  exact congrArg (fun j => ((Y b t j : ℝ) : EReal)) (Fin.ext (show (k + h) * 128 + (l : ℕ) = o + (h * 128 + l) by omega))

include hQ hA in
/-- The rotated lanes. -/
theorem rotated_real (b : Fin 16) (h : Fin 8) (k o : ℕ) (hk : k ≤ 16) (ho : o ≤ 2048) (hko : o = k * 128) (t : Fin 2048) (l : Fin 128) :
    rotated (latB Q b h k hk) (cosTab angle) (sinTab angle) t l = (turned (X b) A h o ho t l : EReal) := by
  unfold rotated turned rot
  rw [latB_real Q X hQ b h k o hk ho hko]
  show _ * cosTab angle (ix2 t l) + _ * sinTab angle (ix2 t l) = _
  rw [cosTab_at, sinTab_at, hA]
  show _ * ((Real.cos _ : ℝ) : EReal) + _ * (if _ then -((Real.sin _ : ℝ) : EReal) else ((Real.sin _ : ℝ) : EReal)) = _
  by_cases hl : (l : ℕ) % 64 < 32
  · rw [if_pos hl, if_pos hl, if_pos hl, latB_real Q X hQ b h k o hk ho hko, ← EReal.coe_neg, ← EReal.coe_mul, ← EReal.coe_mul, ← EReal.coe_add]
    have e : (⟨((l : ℕ) + 128 - 96) % 128, by omega⟩ : Fin 128) = ⟨((l : ℕ) + 32) % 128, by omega⟩ := Fin.ext (show ((l : ℕ) + 128 - 96) % 128 = ((l : ℕ) + 32) % 128 by omega)
    rw [e]
    exact congrArg _ (by ring)
  · rw [if_neg hl, if_neg hl, if_neg hl, latB_real Q X hQ b h k o hk ho hko, ← EReal.coe_mul, ← EReal.coe_mul, ← EReal.coe_add]
    have e : (⟨((l : ℕ) + 128 - 32) % 128, by omega⟩ : Fin 128) = ⟨((l : ℕ) + 96) % 128, by omega⟩ := Fin.ext (show ((l : ℕ) + 128 - 32) % 128 = ((l : ℕ) + 96) % 128 by omega)
    rw [e]
    exact congrArg _ (by ring)

include hQ hC hA in
/-- The keys, in the reference's order. -/
theorem keys_real (b : Fin 16) (h : Fin 8) (s : Fin 2304) (l : Fin 128) :
    keysB (latB Q b h 8 (by omega)) (cosTab angle) (sinTab angle) (ctxB C b h 8 (by omega)) (ix2 s l) = (keyR (X b) (Y b) A h (s + 256) l : EReal) := by
  have hs := shift_val s
  unfold keysB keyR
  by_cases h' : (s : ℕ) < 2048
  · rw [if_pos h'] at hs
    rw [dif_pos (show ((ix2 s l : S2304x128.Idx) 0 : ℕ) < 2048 from h'), dif_neg (by omega)]
    show rotated _ _ _ ⟨s, h'⟩ l = _
    rw [rotated_real Q X A hQ hA b h 8 1024 _ (by omega) rfl]
    exact congrArg (fun t => ((turned (X b) A h 1024 _ t l : ℝ) : EReal)) (Fin.ext (show (s : ℕ) = ((s + 256 : Fin 2304) : ℕ) - 256 by omega))
  · rw [if_neg h'] at hs
    rw [dif_neg (show ¬((ix2 s l : S2304x128.Idx) 0 : ℕ) < 2048 from h'), dif_pos (by omega)]
    show (show FVec Ideal S1x256x128 .f32 from ctxB C b h 8 _) (ix3 0 ⟨(s : ℕ) - 2048, _⟩ l) = _
    rw [ctxB_real C Y hC b h 8 1024 _ (by omega) rfl (by omega)]
    exact congrArg (fun t => ((lanes (Y b) 1024 _ h t l : ℝ) : EReal)) (Fin.ext (show (s : ℕ) - 2048 = ((s + 256 : Fin 2304) : ℕ) by omega))

include hQ hC in
/-- The values likewise. -/
theorem vals_real (b : Fin 16) (h : Fin 8) (s : Fin 2304) (e : Fin 128) :
    valsB (latB Q b h 16 (by omega)) (ctxB C b h 16 (by omega)) (ix2 s ⟨e, by omega⟩) = (valR (X b) (Y b) h e (s + 256) : EReal) := by
  have hs := shift_val s
  unfold valsB valR
  rw [dif_pos (show ((ix2 s ⟨e, by omega⟩ : S2304x256.Idx) 1 : ℕ) < 128 from e.2)]
  by_cases h' : (s : ℕ) < 2048
  · rw [if_pos h'] at hs
    rw [dif_pos (show ((ix2 s ⟨e, by omega⟩ : S2304x256.Idx) 0 : ℕ) < 2048 from h'), dif_neg (by omega)]
    show (show FVec Ideal S1x2048x128 .f32 from latB Q b h 16 _) (ix3 0 ⟨s, h'⟩ e) = _
    rw [latB_real Q X hQ b h 16 2048 _ (by omega) rfl]
    exact congrArg (fun t => ((lanes (X b) 2048 _ h t e : ℝ) : EReal)) (Fin.ext (show (s : ℕ) = ((s + 256 : Fin 2304) : ℕ) - 256 by omega))
  · rw [if_neg h'] at hs
    rw [dif_neg (show ¬((ix2 s ⟨e, by omega⟩ : S2304x256.Idx) 0 : ℕ) < 2048 from h'), dif_pos (by omega)]
    show (show FVec Ideal S1x256x128 .f32 from ctxB C b h 16 _) (ix3 0 ⟨(s : ℕ) - 2048, _⟩ e) = _
    rw [ctxB_real C Y hC b h 16 2048 _ (by omega) rfl (by omega)]
    exact congrArg (fun t => ((lanes (Y b) 2048 _ h t e : ℝ) : EReal)) (Fin.ext (show (s : ℕ) - 2048 = ((s + 256 : Fin 2304) : ℕ) by omega))

/-- The lanes past the values hold ones. -/
theorem vals_ones (xv : Vec Ideal S1x2048x128 .f32) (xc : Vec Ideal S1x256x128 .f32) (s : Fin 2304) : valsB xv xc (ix2 s 128) = 1 :=
  dif_neg (show ¬((ix2 s 128 : S2304x256.Idx) 1 : ℕ) < 128 from (by decide : ¬((128 : Fin 256) : ℕ) < 128))

include hQ hA in
/-- A half-head's masked and scaled query. -/
theorem query_real (b : Fin 16) (h : Fin 8) (u : Fin 2) (p : Fin 128 → Prop) [∀ l, Decidable (p l)] (hp : ∀ l, p l ↔ (l : ℕ) / 64 = u) (t : Fin 2048) (l : Fin 128) :
    (if p l then rotated (latB Q b h 0 (by omega)) (cosTab angle) (sinTab angle) t l * Named.named (F := Ideal) κ "s" (φ := .f32) 0x3E38AA3B#32 else 0)
      = ((if (l : ℕ) / 64 = u then turned (X b) A h 0 (by omega) t l * (8 * Real.log 2)⁻¹ else 0 : ℝ) : EReal) := by
  have hn : Named.named (F := Ideal) κ "s" (φ := .f32) 0x3E38AA3B#32 = (((8 * (Real.log 2))⁻¹ : ℝ) : EReal) :=
    IdealRules.named_const.ideal_named_scalar _ _ _ _ rfl
  by_cases hl : (l : ℕ) / 64 = u
  · rw [if_pos ((hp l).2 hl), if_pos hl, rotated_real Q X A hQ hA b h 0 0 _ (by omega) rfl, hn, ← EReal.coe_mul]
  · rw [if_neg (fun h => hl ((hp l).1 h)), if_neg hl, EReal.coe_zero]

include hD h0 in
/-- The learned factor. -/
theorem lam_real : k0_pay9 (F := Ideal) D l0 (ix2 0 0) = (lamR D' l0' : EReal) := by
  rw [lam_at]
  simp only [hD, h0, sum_coe_mul]
  rfl

include hQ hC hA hD h0 in
/-- The head's row. -/
theorem headRow_real (b : Fin 16) (h : Fin 8) (t : Fin 2048) (e : Fin 128) :
    headRow Q C D l0 b h t e = (attnR (X b) (Y b) A h (lamR D' l0') t e : EReal) := by
  unfold headRow outRow attnR
  rw [lam_real D l0 D' l0' hD h0,
    row_coe _ _ _ e _ _ _ (query_real Q X A hQ hA b h 0 (fun l => (l : ℕ) < 64) (fun l => by show (l : ℕ) < 64 ↔ (l : ℕ) / 64 = 0; omega) t)
      (keys_real Q C X Y A hQ hC hA b h) (fun s => vals_real Q C X Y hQ hC b h s e) (vals_ones _ _),
    row_coe _ _ _ e _ _ _ (query_real Q X A hQ hA b h 1 (fun l => 64 ≤ (l : ℕ)) (fun l => by show 64 ≤ (l : ℕ) ↔ (l : ℕ) / 64 = 1; omega) t)
      (keys_real Q C X Y A hQ hC hA b h) (fun s => vals_real Q C X Y hQ hC b h s e) (vals_ones _ _),
    head_eq (turned (X b) A h 0 (by omega) t) (keyR (X b) (Y b) A h) (valR (X b) (Y b) h e) 0,
    head_eq (turned (X b) A h 0 (by omega) t) (keyR (X b) (Y b) A h) (valR (X b) (Y b) h e) 1,
    ← EReal.coe_mul, ← EReal.coe_sub]
  rfl

end

end Cert.KernelIdeal.Attn

end
-- ==== Proof.RefRow.lean ====
/- The reference's attention, read at one index: the scores as sums over the half-head's lanes. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value

variable (V0 : Valuation τ sig (Elt Ideal))

/-- The latent rows. -/
abbrev lat : FVec Ideal S16x2048x3072 .f32 := V0 (Proc.devRef .tc main_arg0)
/-- The context rows. -/
abbrev ctx : FVec Ideal S16x256x3072 .f32 := V0 (Proc.devRef .tc main_arg1)
/-- The cosines of the rotary angles. -/
abbrev cosT : FVec Ideal S2048x32 .f32 := res_main_v29 (F := Ideal) V0
/-- The sines of the rotary angles. -/
abbrev sinT : FVec Ideal S2048x32 .f32 := res_main_v30 (F := Ideal) V0

/-- The first half of a rotated pair: lane `x` of half-head `u` of head `h`, starting at column `o`. -/
def rotA (Q : FVec Ideal S16x2048x3072 .f32) (cs sn : FVec Ideal S2048x32 .f32) (o : ℕ) (ho : o ≤ 2048)
    (b : Fin 16) (t : Fin 2048) (h : Fin 8) (u : Fin 2) (x : Fin 32) : EReal :=
  Q (ix3 b t ⟨o + (h * 128 + u * 64 + x), by omega⟩) * cs (ix2 t x) - Q (ix3 b t ⟨o + (h * 128 + u * 64 + (32 + x)), by omega⟩) * sn (ix2 t x)
/-- The second half of a rotated pair. -/
def rotB (Q : FVec Ideal S16x2048x3072 .f32) (cs sn : FVec Ideal S2048x32 .f32) (o : ℕ) (ho : o ≤ 2048)
    (b : Fin 16) (t : Fin 2048) (h : Fin 8) (u : Fin 2) (x : Fin 32) : EReal :=
  Q (ix3 b t ⟨o + (h * 128 + u * 64 + x), by omega⟩) * sn (ix2 t x) + Q (ix3 b t ⟨o + (h * 128 + u * 64 + (32 + x)), by omega⟩) * cs (ix2 t x)

/-- The scaled score of query row `t` against key `s`: the context's keys come first, unrotated. -/
def score (Q : FVec Ideal S16x2048x3072 .f32) (C : FVec Ideal S16x256x3072 .f32) (cs sn : FVec Ideal S2048x32 .f32)
    (b : Fin 16) (h : Fin 8) (u : Fin 2) (t : Fin 2048) (s : Fin 2304) : EReal :=
  ((∑ x : Fin 32, rotA Q cs sn 0 (by omega) b t h u x * if hs : (s : ℕ) < 256 then C (ix3 b ⟨s, hs⟩ ⟨1024 + (h * 128 + u * 64 + x), by omega⟩)
      else rotA Q cs sn 1024 (by omega) b ⟨s - 256, by omega⟩ h u x)
    + ∑ x : Fin 32, rotB Q cs sn 0 (by omega) b t h u x * if hs : (s : ℕ) < 256 then C (ix3 b ⟨s, hs⟩ ⟨1024 + (h * 128 + u * 64 + (32 + x)), by omega⟩)
      else rotB Q cs sn 1024 (by omega) b ⟨s - 256, by omega⟩ h u x)
  * Ideal.ofBits .f32 0x3E000000#32

theorem score_at (b : Fin 16) (h : Fin 8) (u : Fin 2) (t : Fin 2048) (s : Fin 2304) :
    (res_main_v86 (F := Ideal) V0 : FVec Ideal S16x8x2x2048x2304 .f32) (ix5 b h u t s)
      = score (lat V0) (ctx V0) (cosT V0) (sinT V0) b h u t s := by
  pointwise [res_main_v86, res_main_v34, res_main_v35, res_main_v32, res_main_v33, res_main_v50, res_main_v51, res_main_v48, res_main_v49,
    res_main_v31, res_main_v47, score, rotA, rotB]

end Cert.ReferenceIdeal.Attn
end
-- ==== Proof.RefAttn.lean ====
/- The reference's softmax weights and its difference of two softmaxes against the values, read at one index. -/
module

public import proofs.«01_k».proof.Proof.RefRow
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value

variable (V0 : Valuation τ sig (Elt Ideal))

/-- The exponentials of the scores minus their maxima `M`. -/
def shifted (X : FVec Ideal S16x8x2x2048x2304 .f32) (M : FVec Ideal S16x8x2x2048 .f32) : FVec Ideal S16x8x2x2048x2304 .f32 :=
  Host.exp (subf X (broadcastInDim S16x8x2x2048x2304 ![0, 1, 2, 3, 4] bcast_S16x8x2x2048x1_S16x8x2x2048x2304_0_1_2_3_4 (broadcastInDim S16x8x2x2048x1 ![0, 1, 2, 3] bcast_S16x8x2x2048_S16x8x2x2048x1_0_1_2_3 (maximumf (broadcastInDim S16x8x2x2048 ![] bcast_S_S16x8x2x2048 (constant S_ .f32 0xFF800000#32)) M))))

theorem shifted_at (X : FVec Ideal S16x8x2x2048x2304 .f32) (M : FVec Ideal S16x8x2x2048 .f32) (b : Fin 16) (h : Fin 8) (u : Fin 2) (t : Fin 2048) (s : Fin 2304) :
    shifted X M (ix5 b h u t s) = Ideal.exp (X (ix5 b h u t s) - max (Ideal.ofBits FTy.f32 0xFF800000#32) (M (ix4 b h u t))) := by
  pointwise [shifted]

/-- Exponentials divided by their sum over the keys. -/
def weights (E : FVec Ideal S16x8x2x2048x2304 .f32) : FVec Ideal S16x8x2x2048x2304 .f32 :=
  Host.divf E (broadcastInDim S16x8x2x2048x2304 ![0, 1, 2, 3, 4] bcast_S16x8x2x2048x1_S16x8x2x2048x2304_0_1_2_3_4 (broadcastInDim S16x8x2x2048x1 ![0, 1, 2, 3] bcast_S16x8x2x2048_S16x8x2x2048x1_0_1_2_3 (Host.reduceAdd E (constant S_ .f32 0x00000000#32) reducesTo_S16x8x2x2048x2304_S16x8x2x2048_d4 h_S_)))

theorem weights_at (E : FVec Ideal S16x8x2x2048x2304 .f32) (b : Fin 16) (h : Fin 8) (u : Fin 2) (t : Fin 2048) (s : Fin 2304) :
    weights E (ix5 b h u t s) = Ideal.div (E (ix5 b h u t s)) (∑ x : Fin 2304, E (ix5 b h u t x)) := by
  pointwise [weights]

/-- The softmax weights in these words. -/
theorem v97_eq : res_main_v97 (F := Ideal) V0 = weights (shifted (res_main_v86 (F := Ideal) V0) (Host.reduce FloatOps.maximumf (res_main_v86 (F := Ideal) V0) (constant S_ .f32 0xFF800000#32) reducesTo_S16x8x2x2048x2304_S16x8x2x2048_d4 h_S_)) := by
  unfold res_main_v97 res_main_v93 weights shifted
  rfl

/-- The difference of the two softmaxes, against the values: the product and the reordering of its axes. -/
def attend (VA : FVec Ideal S16x2304x8x128 .f32) (L : FVec Ideal S_ .f32) (W : FVec Ideal S16x8x2x2048x2304 .f32) : FVec Ideal S16x2048x8x128 .f32 :=
  transpose S16x2048x8x128 [0, 3, 1, 2] (Host.dotGeneral dot_S16x2304x8x128_S16x8x2048x2304_S16x8x128x2048_1_3_3_2_02_01 none VA
    (subf (shapeCast _ (extractStridedSlice S16x8x1x2048x2304 ![0, 0, 0, 0, 0] W slices_S16x8x2x2048x2304_S16x8x1x2048x2304_0_0_0_0_0) shapeCasts_S16x8x1x2048x2304_S16x8x2048x2304)
      (mulf (broadcastInDim S16x8x2048x2304 ![] bcast_S_S16x8x2048x2304 L)
        (shapeCast _ (extractStridedSlice S16x8x1x2048x2304 ![0, 0, 1, 0, 0] W slices_S16x8x2x2048x2304_S16x8x1x2048x2304_0_0_1_0_0) shapeCasts_S16x8x1x2048x2304_S16x8x2048x2304)))) transposes_S16x8x128x2048_S16x2048x8x128_0_3_1_2

theorem attend_at (VA : FVec Ideal S16x2304x8x128 .f32) (L : FVec Ideal S_ .f32) (W : FVec Ideal S16x8x2x2048x2304 .f32)
    (b : Fin 16) (h : Fin 8) (t : Fin 2048) (e : Fin 128) :
    attend VA L W (ix4 b t h e) = ∑ s : Fin 2304, VA (ix4 b s h e) * (W (ix5 b h 0 t s) - L ix0 * W (ix5 b h 1 t s)) := by
  pointwise [attend]

/-- The values of all keys: the context's first. -/
def valuesAll (Q : FVec Ideal S16x2048x3072 .f32) (C : FVec Ideal S16x256x3072 .f32) : FVec Ideal S16x2304x8x128 .f32 :=
  concatenate S16x2304x8x128 1 [⟨S16x256x8x128, (shapeCast _ (extractStridedSlice S16x256x1024 ![0, 0, 2048] C slices_S16x256x3072_S16x256x1024_0_0_2048) shapeCasts_S16x256x1024_S16x256x8x128)⟩, ⟨S16x2048x8x128, (shapeCast _ (extractStridedSlice S16x2048x1024 ![0, 0, 2048] Q slices_S16x2048x3072_S16x2048x1024_0_0_2048) shapeCasts_S16x2048x1024_S16x2048x8x128)⟩] concatenates_S16x256x8x128_S16x2048x8x128_S16x2304x8x128_d1

theorem valuesAll_at (Q : FVec Ideal S16x2048x3072 .f32) (C : FVec Ideal S16x256x3072 .f32) (b : Fin 16) (h : Fin 8) (s : Fin 2304) (e : Fin 128) :
    valuesAll Q C (ix4 b s h e) = if hs : (s : ℕ) < 256 then C (ix3 b ⟨s, hs⟩ ⟨2048 + (h * 128 + e), by omega⟩)
      else Q (ix3 b ⟨s - 256, by omega⟩ ⟨2048 + (h * 128 + e), by omega⟩) := by
  pointwise [valuesAll]

/-- The learned factor of the second softmax. -/
def lamAll (D : FVec Ideal S4x64 .f32) (l0 : FVec Ideal S_ .f32) : FVec Ideal S_ .f32 :=
  addf (subf (Host.exp (Host.reduceAdd (mulf (shapeCast _ (extractStridedSlice S1x64 ![0, 0] D slices_S4x64_S1x64_0_0) shapeCasts_S1x64_S64) (shapeCast _ (extractStridedSlice S1x64 ![1, 0] D slices_S4x64_S1x64_1_0) shapeCasts_S1x64_S64)) (constant S_ .f32 0x00000000#32) reducesTo_S64_S_d0 h_S_)) (Host.exp (Host.reduceAdd (mulf (shapeCast _ (extractStridedSlice S1x64 ![2, 0] D slices_S4x64_S1x64_2_0) shapeCasts_S1x64_S64) (shapeCast _ (extractStridedSlice S1x64 ![3, 0] D slices_S4x64_S1x64_3_0) shapeCasts_S1x64_S64)) (constant S_ .f32 0x00000000#32) reducesTo_S64_S_d0 h_S_))) l0

theorem lamAll_at (D : FVec Ideal S4x64 .f32) (l0 : FVec Ideal S_ .f32) :
    lamAll D l0 ix0 = Ideal.exp (∑ x : Fin 64, D (ix2 0 x) * D (ix2 1 x)) - Ideal.exp (∑ x : Fin 64, D (ix2 2 x) * D (ix2 3 x)) + l0 ix0 := by
  pointwise [lamAll]

/-- The attention's output in these words. -/
theorem v106_eq : res_main_v106 (F := Ideal) V0 = attend (valuesAll (lat V0) (ctx V0))
    (lamAll (V0 (Proc.devRef .tc main_arg2)) (res_main_v0 (F := Ideal) V0)) (res_main_v97 (F := Ideal) V0) := by
  unfold res_main_v106 attend valuesAll lamAll lat ctx
  rfl

/-- The maximum over an axis of real numbers is a real number. -/
theorem reduce_max_real {s t u : Shape} {axes : List (Fin s.rank)} (x : s.Idx → EReal) (init : u.Idx → EReal) (h : s.ReducesTo axes t) (hu : 0 < u.numel)
    (j : t.Idx) (i₀ : s.Idx) (hi₀ : h.drop i₀ = j) (X : s.Idx → ℝ) (hx : ∀ i, x i = (X i : EReal)) (hinit : init (Shape.Idx.first hu) = ⊥) :
    ∃ M : ℝ, Host.reduce max x init h hu j = (M : EReal) := by
  rw [Host.reduce_eq_fold, hinit, show x = fun i => (X i : EReal) from funext hx]
  exact Cert.Attn.fold_max_coe_of_nonempty X ⟨i₀, by simp [hi₀]⟩

end Cert.ReferenceIdeal.Attn
end
-- ==== Proof.RefReal.lean ====
/- The reference's rows over the real numbers. -/
module

public import proofs.«01_k».proof.Proof.RefAttn
public import proofs.«01_k».proof.Proof.Reals

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

section
variable (Q : FVec Ideal S16x2048x3072 .f32) (C : FVec Ideal S16x256x3072 .f32) (cs sn : FVec Ideal S2048x32 .f32)
  (X : Fin 16 → Fin 2048 → Fin 3072 → ℝ) (Y : Fin 16 → Fin 256 → Fin 3072 → ℝ) (A : Fin 2048 → Fin 32 → ℝ)
  (hQ : ∀ b t j, Q (ix3 b t j) = (X b t j : EReal)) (hC : ∀ b s (j : Fin 3072), 1024 ≤ (j : ℕ) → C (ix3 b s j) = (Y b s j : EReal))
  (hcs : ∀ t x, cs (ix2 t x) = ((Real.cos (A t x) : ℝ) : EReal)) (hsn : ∀ t x, sn (ix2 t x) = ((Real.sin (A t x) : ℝ) : EReal))

/-- The rotation at a lane of the first half of a pair, -/
theorem turned_A (Z : Fin 2048 → Fin 3072 → ℝ) (h : Fin 8) (o : ℕ) (ho : o ≤ 2048) (t : Fin 2048) (u : Fin 2) (x : Fin 32) :
    turned Z A h o ho t ⟨u * 64 + x, by omega⟩ = Z t ⟨o + (h * 128 + u * 64 + x), by omega⟩ * Real.cos (A t x)
      - Z t ⟨o + (h * 128 + u * 64 + (32 + x)), by omega⟩ * Real.sin (A t x) := by
  unfold turned rot lanes
  rw [if_pos (show (u * 64 + x : ℕ) % 64 < 32 by omega)]
  have e0 : (⟨((u * 64 + x : ℕ)) % 32, by omega⟩ : Fin 32) = x := Fin.ext (show (u * 64 + x : ℕ) % 32 = x by omega)
  have e1 : (⟨o + (h * 128 + (u * 64 + x)), by omega⟩ : Fin 3072) = ⟨o + (h * 128 + u * 64 + x), by omega⟩ := Fin.ext (by dsimp only; omega)
  have e2 : (⟨o + (h * 128 + (u * 64 + x + 32) % 128), by omega⟩ : Fin 3072) = ⟨o + (h * 128 + u * 64 + (32 + x)), by omega⟩ := Fin.ext (by dsimp only; omega)
  dsimp only
  rw [e0, e1, e2]

/-- and of the second. -/
theorem turned_B (Z : Fin 2048 → Fin 3072 → ℝ) (h : Fin 8) (o : ℕ) (ho : o ≤ 2048) (t : Fin 2048) (u : Fin 2) (x : Fin 32) :
    turned Z A h o ho t ⟨u * 64 + (32 + x), by omega⟩ = Z t ⟨o + (h * 128 + u * 64 + x), by omega⟩ * Real.sin (A t x)
      + Z t ⟨o + (h * 128 + u * 64 + (32 + x)), by omega⟩ * Real.cos (A t x) := by
  unfold turned rot lanes
  rw [if_neg (show ¬(u * 64 + (32 + x) : ℕ) % 64 < 32 by omega)]
  have e0 : (⟨((u * 64 + (32 + x) : ℕ)) % 32, by omega⟩ : Fin 32) = x := Fin.ext (show (u * 64 + (32 + x) : ℕ) % 32 = x by omega)
  have e1 : (⟨o + (h * 128 + (u * 64 + (32 + x))), by omega⟩ : Fin 3072) = ⟨o + (h * 128 + u * 64 + (32 + x)), by omega⟩ := Fin.ext (by dsimp only; omega)
  have e2 : (⟨o + (h * 128 + (u * 64 + (32 + x) + 96) % 128), by omega⟩ : Fin 3072) = ⟨o + (h * 128 + u * 64 + x), by omega⟩ := Fin.ext (by dsimp only; omega)
  dsimp only
  rw [e0, e1, e2]

include hQ hcs hsn in
theorem rotA_real (o : ℕ) (ho : o ≤ 2048) (b : Fin 16) (t : Fin 2048) (h : Fin 8) (u : Fin 2) (x : Fin 32) :
    rotA Q cs sn o ho b t h u x = (turned (X b) A h o ho t ⟨u * 64 + x, by omega⟩ : EReal) := by
  unfold rotA
  rw [turned_A, hQ, hQ, hcs, hsn, ← EReal.coe_mul, ← EReal.coe_mul, ← EReal.coe_sub]

include hQ hcs hsn in
theorem rotB_real (o : ℕ) (ho : o ≤ 2048) (b : Fin 16) (t : Fin 2048) (h : Fin 8) (u : Fin 2) (x : Fin 32) :
    rotB Q cs sn o ho b t h u x = (turned (X b) A h o ho t ⟨u * 64 + (32 + x), by omega⟩ : EReal) := by
  unfold rotB
  rw [turned_B, hQ, hQ, hcs, hsn, ← EReal.coe_mul, ← EReal.coe_mul, ← EReal.coe_add]

include hQ hC hcs hsn in
/-- The scores. -/
theorem score_real (b : Fin 16) (h : Fin 8) (u : Fin 2) (t : Fin 2048) (s : Fin 2304) :
    score Q C cs sn b h u t s = (scoreR (X b) (Y b) A h u t s : EReal) := by
  have kA : ∀ x : Fin 32, (if hs : (s : ℕ) < 256 then C (ix3 b ⟨s, hs⟩ ⟨1024 + (h * 128 + u * 64 + x), by omega⟩)
      else rotA Q cs sn 1024 (by omega) b ⟨s - 256, by omega⟩ h u x) = (keyR (X b) (Y b) A h s ⟨u * 64 + x, by omega⟩ : EReal) := fun x => by
    unfold keyR
    by_cases hs : (s : ℕ) < 256
    · rw [dif_pos hs, dif_pos hs, hC _ _ _ (by dsimp only; omega)]
      exact congrArg (fun j => ((Y b ⟨s, hs⟩ j : ℝ) : EReal)) (Fin.ext (by dsimp only; omega))
    · rw [dif_neg hs, dif_neg hs, rotA_real Q cs sn X A hQ hcs hsn]
  have kB : ∀ x : Fin 32, (if hs : (s : ℕ) < 256 then C (ix3 b ⟨s, hs⟩ ⟨1024 + (h * 128 + u * 64 + (32 + x)), by omega⟩)
      else rotB Q cs sn 1024 (by omega) b ⟨s - 256, by omega⟩ h u x) = (keyR (X b) (Y b) A h s ⟨u * 64 + (32 + x), by omega⟩ : EReal) := fun x => by
    unfold keyR
    by_cases hs : (s : ℕ) < 256
    · rw [dif_pos hs, dif_pos hs, hC _ _ _ (by dsimp only; omega)]
      exact congrArg (fun j => ((Y b ⟨s, hs⟩ j : ℝ) : EReal)) (Fin.ext (by dsimp only; omega))
    · rw [dif_neg hs, dif_neg hs, rotB_real Q cs sn X A hQ hcs hsn]
  unfold score scoreR
  rw [ofBits_eighth, EReal.coe_mul, EReal.coe_add, ← sum_coe_mul, ← sum_coe_mul]
  refine congrArg (· * _) (congrArg₂ (· + ·) ?_ ?_) <;> refine Finset.sum_congr rfl fun x _ => ?_
  · rw [kA, rotA_real Q cs sn X A hQ hcs hsn]
  · rw [kB, rotB_real Q cs sn X A hQ hcs hsn]

include hQ hC in
/-- The values. -/
theorem values_real (b : Fin 16) (h : Fin 8) (s : Fin 2304) (e : Fin 128) :
    valuesAll Q C (ix4 b s h e) = (valR (X b) (Y b) h e s : EReal) := by
  rw [valuesAll_at]
  unfold valR lanes
  by_cases hs : (s : ℕ) < 256
  · rw [dif_pos hs, dif_pos hs, hC _ _ _ (by dsimp only; omega)]
  · rw [dif_neg hs, dif_neg hs, hQ]

end

/-- The learned factor. -/
theorem lamAll_real (D : FVec Ideal S4x64 .f32) (l0 : FVec Ideal S_ .f32) (D' : Fin 4 → Fin 64 → ℝ) (l0' : ℝ)
    (hD : ∀ i j, D (ix2 i j) = (D' i j : EReal)) (h0 : l0 ix0 = (l0' : EReal)) : lamAll D l0 ix0 = (lamR D' l0' : EReal) := by
  rw [lamAll_at]
  simp only [hD, h0, sum_coe_mul]
  rfl

/-- The rows of maxima are real numbers where the scores are. -/
theorem maxima_real (x : FVec Ideal S16x8x2x2048x2304 .f32) (hx : ∀ i, ∃ r : ℝ, x i = (r : EReal)) (b : Fin 16) (h : Fin 8) (u : Fin 2) (t : Fin 2048) :
    ∃ M : ℝ, Host.reduce FloatOps.maximumf x (constant S_ .f32 0xFF800000#32) reducesTo_S16x8x2x2048x2304_S16x8x2x2048_d4 h_S_ (ix4 b h u t) = (M : EReal) := by
  choose X hX using hx
  refine reduce_max_real x _ _ _ (ix4 b h u t) (ix5 b h u t 0) ?_ X hX ofBits_bot
  funext a
  match a with
  | 0 => rfl
  | 1 => rfl
  | 2 => rfl
  | 3 => rfl

section
variable (V0 : Valuation τ sig (Elt Ideal))
  (X : Fin 16 → Fin 2048 → Fin 3072 → ℝ) (Y : Fin 16 → Fin 256 → Fin 3072 → ℝ) (A : Fin 2048 → Fin 32 → ℝ) (D' : Fin 4 → Fin 64 → ℝ) (l0' : ℝ)
  (hQ : ∀ b t j, lat V0 (ix3 b t j) = (X b t j : EReal)) (hC : ∀ b s (j : Fin 3072), 1024 ≤ (j : ℕ) → ctx V0 (ix3 b s j) = (Y b s j : EReal))
  (hcs : ∀ t x, cosT V0 (ix2 t x) = ((Real.cos (A t x) : ℝ) : EReal)) (hsn : ∀ t x, sinT V0 (ix2 t x) = ((Real.sin (A t x) : ℝ) : EReal))
  (hD : ∀ i j, (V0 (Proc.devRef .tc main_arg2) : FVec Ideal S4x64 .f32) (ix2 i j) = (D' i j : EReal))
  (h0 : (res_main_v0 (F := Ideal) V0 : FVec Ideal S_ .f32) ix0 = (l0' : EReal))

include hQ hC hcs hsn hD h0 in
/-- The head's row. -/
theorem attend_real (b : Fin 16) (h : Fin 8) (t : Fin 2048) (e : Fin 128) :
    (res_main_v106 (F := Ideal) V0 : FVec Ideal S16x2048x8x128 .f32) (ix4 b t h e) = (attnR (X b) (Y b) A h (lamR D' l0') t e : EReal) := by
  have hs : ∀ b h u t s, (res_main_v86 (F := Ideal) V0 : FVec Ideal S16x8x2x2048x2304 .f32) (ix5 b h u t s) = (scoreR (X b) (Y b) A h u t s : EReal) :=
    fun b h u t s => by rw [score_at, score_real _ _ _ _ X Y A hQ hC hcs hsn]
  have hM := maxima_real (res_main_v86 (F := Ideal) V0) fun i => by
    idx_vars i
    exact ⟨_, hs ..⟩
  obtain ⟨M, hM0⟩ := hM b h 0 t
  obtain ⟨N, hM1⟩ := hM b h 1 t
  rw [v106_eq, attend_at, lamAll_real _ _ D' l0' hD h0, v97_eq]
  simp only [weights_at, shifted_at, hs, hM0, hM1, values_real _ _ X Y hQ hC, ofBits_bot, max_eq_right bot_le]
  exact ref_row (by norm_num) _ _ _ _ _ _

end

end Cert.ReferenceIdeal.Attn

end
-- ==== Proof.AttnJoin.lean ====
/- The two programs' results are one function of finite arguments. -/
module

public import proofs.«01_k».proof.Proof.KernelReal
public import proofs.«01_k».proof.Proof.RefReal
public import proofs.«01_k».proof.Pre_finite

@[expose] public section

set_option maxRecDepth 16384

noncomputable section

/-! ## What the precondition says -/

namespace Cert.Pre_finite

open Idealize.ShloMosaic Idealize.ShloMosaic.TcCoe
open Cert.Pre_finite

/-- A value whose absolute value is below infinity is a real number. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  unfold Ideal.cmp at h
  refine (EReal.coe_toReal ?_ ?_).symm <;> rintro rfl <;> simp at h

variable [Facts] (Q : FVec Ideal S16x2048x3072 .f32) (C : FVec Ideal S16x256x3072 .f32) (D : FVec Ideal S4x64 .f32) (g : FVec Ideal S128 .f32) (l0 : FVec Ideal S1x1 .f32)

theorem real0 (h : (fn Q C D g l0).1 = fun _ => 1#1) (b : Fin 16) (t : Fin 2048) (j : Fin 3072) : Q (ix3 b t j) = ((Q (ix3 b t j)).toReal : EReal) :=
  real_of_lt _ (congrFun h (ix3 b t j))

theorem real1 (h : (fn Q C D g l0).2.1 = fun _ => 1#1) (b : Fin 16) (s : Fin 256) (j : Fin 3072) (hj : 1024 ≤ (j : ℕ)) : C (ix3 b s j) = ((C (ix3 b s j)).toReal : EReal) := by
  have e : extractStridedSlice S16x256x2048 ![0, 0, 1024] C Facts.slices_S16x256x3072_S16x256x2048_0_0_1024 (ix3 b s ⟨j - 1024, by omega⟩) = C (ix3 b s j) := by
    have hk : j = ⟨1024 + ((j : ℕ) - 1024), by omega⟩ := Fin.ext (by dsimp only; omega)
    conv_rhs => rw [hk]
    pointwise
  rw [← e]
  exact real_of_lt _ (congrFun h (ix3 b s ⟨j - 1024, by omega⟩))

theorem real2 (h : (fn Q C D g l0).2.2.1 = fun _ => 1#1) (i : Fin 4) (j : Fin 64) : D (ix2 i j) = ((D (ix2 i j)).toReal : EReal) :=
  real_of_lt _ (congrFun h (ix2 i j))

theorem real4 (h : (fn Q C D g l0).2.2.2 = fun _ => 1#1) : l0 (ix2 0 0) = ((l0 (ix2 0 0)).toReal : EReal) :=
  real_of_lt _ (congrFun h (ix2 0 0))

end Cert.Pre_finite

/-! ## The reference's last step, and the two results -/

namespace Cert.ReferenceIdeal.Attn

open Idealize.ShloMosaic Idealize.ShloMosaic.TcCoe Idealize.SL.Sem
open Cert.ReferenceIdeal Cert.ReferenceIdeal.Gen Cert.ReferenceIdeal.Value

/-- The norm of the heads' rows, the gain, the layer's factor, and the rounding. -/
def normed (o : FVec Ideal S16x2048x8x128 .f32) (g : FVec Ideal S128 .f32) (l : FVec Ideal S_ .f32) : FVec Ideal S16x2048x1024 .bf16 :=
  truncf .bf16 (shapeCast S16x2048x1024 (mulf (mulf (mulf o (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf o o) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32))))))
    (broadcastInDim S16x2048x8x128 ![0, 1, 2, 3] bcast_S1x1x1x128_S16x2048x8x128_0_1_2_3 (broadcastInDim S1x1x1x128 ![3] bcast_S128_S1x1x1x128_3 g)))
    (broadcastInDim S16x2048x8x128 ![] bcast_S_S16x2048x8x128 (subf (constant S_ .f32 0x3F800000#32) l))) shapeCasts_S16x2048x8x128_S16x2048x1024) bitsLt_bf16_f32

theorem normed_at (o : FVec Ideal S16x2048x8x128 .f32) (g : FVec Ideal S128 .f32) (l : FVec Ideal S_ .f32) (b : Fin 16) (t : Fin 2048) (j : Fin 1024) :
    normed o g l (ix3 b t j) = o (ix4 b t ⟨j / 128, by omega⟩ ⟨j % 128, by omega⟩)
      * Ideal.rsqrt (Ideal.div (∑ x : Fin 128, o (ix4 b t ⟨j / 128, by omega⟩ x) * o (ix4 b t ⟨j / 128, by omega⟩ x)) (Ideal.ofBits .f32 0x43000000#32) + Ideal.ofBits .f32 0x358637BD#32)
      * g (ix1 ⟨j % 128, by omega⟩) * (1 - l ix0) := by
  pointwise [normed]

variable (V0 : Valuation τ sig (Elt Ideal))

/-- The reference's angles are the kernel's. -/
theorem angle_eq : res_main_v28 (F := Ideal) V0 = Cert.KernelIdeal.Attn.angle := by
  unfold res_main_v28 res_main_call0_v2 res_main_call1_v4 res_main_call1_v2 res_main_v17 res_main_call0_v0 res_main_call1_v0 res_main_v7
  rfl

/-- The reference's result is the kernel's, of finite arguments. -/
theorem result_eq [Cert.Pre_finite.Facts] (Q : FVec Ideal S16x2048x3072 .f32) (C : FVec Ideal S16x256x3072 .f32) (D : FVec Ideal S4x64 .f32) (g : FVec Ideal S128 .f32) (l0 : FVec Ideal S1x1 .f32)
    (e0 : V0 (Proc.devRef .tc main_arg0) = Q) (e1 : V0 (Proc.devRef .tc main_arg1) = C) (e2 : V0 (Proc.devRef .tc main_arg2) = D)
    (e3 : V0 (Proc.devRef .tc main_arg3) = g) (e4 : V0 (Proc.devRef .tc main_arg4) = l0)
    (h0 : (Cert.Pre_finite.fn (F := Ideal) Q C D g l0).1 = fun _ => 1#1) (h1 : (Cert.Pre_finite.fn (F := Ideal) Q C D g l0).2.1 = fun _ => 1#1)
    (h2 : (Cert.Pre_finite.fn (F := Ideal) Q C D g l0).2.2.1 = fun _ => 1#1) (h4 : (Cert.Pre_finite.fn (F := Ideal) Q C D g l0).2.2.2 = fun _ => 1#1) :
    normed (res_main_v106 (F := Ideal) V0) g (res_main_v0 (F := Ideal) V0) = Cert.KernelIdeal.Attn.arrOut Q C D g l0 := by
  have hQ := Cert.Pre_finite.real0 Q C D g l0 h0
  have hC := Cert.Pre_finite.real1 Q C D g l0 h1
  have hD := Cert.Pre_finite.real2 Q C D g l0 h2
  have hl := Cert.Pre_finite.real4 Q C D g l0 h4
  have hA : ∀ t x, ∃ r : ℝ, Cert.KernelIdeal.Attn.angle (ix2 t x) = (r : EReal) := Cert.KernelIdeal.Attn.angle_real
  choose A hA using hA
  have hv : (res_main_v0 (F := Ideal) V0 : FVec Ideal S_ .f32) ix0 = l0 (ix2 0 0) := by
    unfold res_main_v0
    rw [e4]
    pointwise
  have hcs : ∀ t x, cosT V0 (ix2 t x) = ((Real.cos (A t x) : ℝ) : EReal) := fun t x => by
    show Ideal.cos (res_main_v28 (F := Ideal) V0 (ix2 t x)) = _
    rw [angle_eq, hA]
    rfl
  have hsn : ∀ t x, sinT V0 (ix2 t x) = ((Real.sin (A t x) : ℝ) : EReal) := fun t x => by
    show Ideal.sin (res_main_v28 (F := Ideal) V0 (ix2 t x)) = _
    rw [angle_eq, hA]
    rfl
  have hR : ∀ b h t e, (res_main_v106 (F := Ideal) V0 : FVec Ideal S16x2048x8x128 .f32) (ix4 b t h e) = Cert.KernelIdeal.Attn.headRow Q C D l0 b h t e := fun b h t e => by
    rw [attend_real V0 _ _ A _ _ (by rw [lat, e0]; exact hQ) (by rw [ctx, e1]; exact hC) hcs hsn (by rw [e2]; exact hD) (hv.trans hl),
      Cert.KernelIdeal.Attn.headRow_real Q C D l0 _ _ A _ _ hQ hC hA hD hl]
  funext i
  idx_vars i
  rw [normed_at]
  simp only [hR, hv]
  rfl

end Cert.ReferenceIdeal.Attn

end
-- ==== Proof.AttnClaims.lean ====
/- The claims about the attention call. -/
module

public import proofs.«01_k».proof.Defs
public import proofs.«01_k».proof.Proof.Gen.Kernel.Frame
public import proofs.«01_k».proof.Proof.AttnJoin
public import proofs.«01_k».proof.Proof.Gen.Pre_finite
public import Idealize.ShloMosaic.Lib.Quiescent

@[expose] public section

noncomputable section

namespace Cert.Proof.AttnClaims

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The named constant is the scale `1 / (8 log 2)`. -/
theorem preserves : Cert.preserves_Kernel_KernelIdeal :=
  IdealRules.named_const.statement Cert.KernelIdeal.κ "s" .f32 0x3E38AA3B#32 (((8 * (Real.log 2))⁻¹ : ℝ) : EReal) rfl

/-- Of finite arguments the kernel and the reference end with equal results. -/
theorem algebraic : Cert.algebraic_KernelIdeal_ReferenceIdeal_pre_finite := by
  intro m ρ m' ρ' hpre hagree
  refine ⟨fun c => Cert.KernelIdeal.Attn.arrOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono (fun _ h c => ⟨(h c).1.trans (Cert.KernelIdeal.Attn.final m c), (h c).2⟩)
    (Cert.KernelIdeal.Value.run_blocks (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4⟩ := hagree c
  obtain ⟨p0, p1, p2, p4⟩ := hpre c
  refine Eq.trans ?_ (Cert.ReferenceIdeal.Attn.result_eq (StableHlo.launchContents m' c) _ _ _ _ _ a0 a1 a2 a3 a4 p0 p1 p2 p4)
  rw [← a3]
  rfl

end Cert.Proof.AttnClaims

end
-- ==== Proof.ProjRows.lean ====
/- The in-projection as mathematics: every token's row times a group of the weights' columns. -/
module

public import Idealize.ShloMosaic.Lib.Pointwise
public import Idealize.ShloMosaic.Lib.Pipeline.ValueKit

@[expose] public section

noncomputable section

namespace Cert.Proof.ProjRows

open Idealize.ShloMosaic

/-- The tokens of all batch elements, row by row, times a matrix of `N` columns. -/
def rowsOut (N : ℕ) (H : FVec Ideal ⟨3, ![16, 2048, 2048]⟩ .bf16) (W : FVec Ideal ⟨2, ![2048, N]⟩ .bf16) : FVec Ideal ⟨3, ![1, 32768, N]⟩ .f32 := fun i =>
  ∑ k : Fin 2048, H (ix3 ⟨(i 1 : ℕ) / 2048, by have : (i 1 : ℕ) < 32768 := (i 1).2; omega⟩ ⟨(i 1 : ℕ) % 2048, by omega⟩ k) * W (ix2 k (i 2))

/-- Its value at row `r` and column `n`. -/
theorem rowsOut_at (N : ℕ) (H : FVec Ideal ⟨3, ![16, 2048, 2048]⟩ .bf16) (W : FVec Ideal ⟨2, ![2048, N]⟩ .bf16)
    (i : Shape.Idx ⟨3, ![1, 32768, N]⟩) (r : Fin 32768) (n : Fin N) (h1 : (i 1 : ℕ) = r) (h2 : (i 2 : ℕ) = n) :
    rowsOut N H W i = ∑ k : Fin 2048, H (ix3 ⟨(r : ℕ) / 2048, by omega⟩ ⟨(r : ℕ) % 2048, by omega⟩ k) * W (ix2 k n) := by
  obtain rfl : i 1 = r := Fin.ext h1
  obtain rfl : i 2 = n := Fin.ext h2
  rfl

/-- The tokens flattened to rows: row `r` is token `r % 2048` of batch element `r / 2048`. -/
theorem rows_at (H : FVec Ideal ⟨3, ![16, 2048, 2048]⟩ .bf16) (h : Shape.ShapeCasts ⟨3, ![16, 2048, 2048]⟩ ⟨3, ![1, 32768, 2048]⟩) (r : Fin 32768) (k : Fin 2048) :
    shapeCast ⟨3, ![1, 32768, 2048]⟩ H h (ix3 0 r k) = H (ix3 ⟨(r : ℕ) / 2048, by omega⟩ ⟨(r : ℕ) % 2048, by omega⟩ k) := by
  pointwise

/-- An index of a block with one plane is its row and its column. -/
theorem idx_plane (R C : ℕ) (y : Shape.Idx ⟨3, ![1, R, C]⟩) : ∃ (r : Fin R) (n : Fin C), y = ix3 0 r n := by
  have h0 : (y 0 : ℕ) < 1 := (y 0).2
  refine ⟨y 1, y 2, ?_⟩
  funext a
  match a with
  | 0 => exact Fin.ext (show (y 0 : ℕ) = 0 by omega)
  | 1 => rfl
  | 2 => rfl

end Cert.Proof.ProjRows

end
-- ==== Proof.Proj3Claims.lean ====
/- The claims about the in-projection's columns in groups of 3072. -/
module

public import proofs.«01_k».proof.Defs
public import proofs.«01_k».proof.Proof.Gen.Proj3.Frame
public import proofs.«01_k».proof.Proof.Gen.Proj3Ideal.Value
public import proofs.«01_k».proof.Proof.Gen.Proj3RefIdeal.Run
public import proofs.«01_k».proof.Proof.ProjRows
public import Idealize.ShloMosaic.Lib.Quiescent

@[expose] public section

set_option maxRecDepth 16384

noncomputable section

namespace Cert.Proof.Proj3Claims

open Idealize.ShloMosaic Idealize.ShloMosaic.TcCoe Idealize.SL.Sem
open Cert.Proof.ProjRows Cert.Proj3Ideal Cert.Proj3Ideal.Gen

/-- The body at an index: the blocks' product. -/
theorem block_at (a : FVec Ideal S1x1024x2048 .bf16) (b : FVec Ideal S1x2048x1024 .bf16) (r : Fin 1024) (n : Fin 1024) :
    (k0_pay1 (F := Ideal) a b (ix3 0 r n) : EReal) = ∑ k : Fin 2048, a (ix3 0 r k) * b (ix3 0 k n) := by
  unfold k0_pay1
  pointwise

variable (m : (ℓ : Loc nD τ sig) → Buf (Elt Ideal) ℓ)

/-- The index maps: rows by the inner coordinate, columns by the outer. -/
theorem idx : ∀ t : Fin cfg0.N, win0_0.index t = ![0, (t : ℕ) % 32, 0] ∧ win0_1.index t = ![0, 0, (t : ℕ) / 32] ∧ win0_2.index t = ![0, (t : ℕ) % 32, (t : ℕ) / 32] :=
  (by decide +kernel : ∀ t : Fin grid0.N, _)

/-- The first window's array: the tokens as rows. -/
theorem entry_h (c : Dev nD) : V m c main_v0 = shapeCast S1x32768x2048 (m ((c : Thread nD τ).loc main_arg0) : FVec Ideal S16x2048x2048 .bf16) shapeCasts_S16x2048x2048_S1x32768x2048 := by
  simp only [V, hostOps0]
  entry_read
  rfl

/-- The second window's array: the weights. -/
theorem entry_w (c : Dev nD) : V m c main_v1 = broadcastInDim S1x2048x3072 ![1, 2] bcast_S2048x3072_S1x2048x3072_1_2 (m ((c : Thread nD τ).loc main_arg1) : FVec Ideal S2048x3072 .bf16) := by
  simp only [V, hostOps0]
  entry_read
  rfl

theorem weights_at (W : FVec Ideal S2048x3072 .bf16) (k : Fin 2048) (n : Fin 3072) :
    broadcastInDim S1x2048x3072 ![1, 2] bcast_S2048x3072_S1x2048x3072_1_2 W (ix3 0 k n) = W (ix2 k n) := by
  pointwise

/-- A block of tokens. -/
theorem blk_h (c : Dev nD) (t : Fin cfg0.N) (r : Fin 1024) (k : Fin 2048) :
    (show FVec Ideal S1x1024x2048 .bf16 from iblk m c 0 t) (ix3 0 r k)
      = (m ((c : Thread nD τ).loc main_arg0) : FVec Ideal S16x2048x2048 .bf16) (ix3 ⟨((t : ℕ) % 32 * 1024 + r) / 2048, by omega⟩ ⟨((t : ℕ) % 32 * 1024 + r) % 2048, by omega⟩ k) := by
  refine Eq.trans ?_ (rows_at _ shapeCasts_S16x2048x2048_S1x32768x2048 ⟨(t : ℕ) % 32 * 1024 + r, by omega⟩ k)
  blk_simp [iblk, idx t]
  rw [entry_h]
  generalize shapeCast S1x32768x2048 _ _ = T
  blk_point [idx t]

/-- A block of the weights' columns. -/
theorem blk_w (c : Dev nD) (t : Fin cfg0.N) (k : Fin 2048) (n : Fin 1024) :
    (show FVec Ideal S1x2048x1024 .bf16 from iblk m c 1 t) (ix3 0 k n)
      = (m ((c : Thread nD τ).loc main_arg1) : FVec Ideal S2048x3072 .bf16) (ix2 k ⟨(t : ℕ) / 32 * 1024 + n, by have : (t : ℕ) < 96 := t.2; omega⟩) := by
  refine Eq.trans ?_ (weights_at _ _ _)
  blk_simp [iblk, idx t]
  rw [entry_w]
  generalize broadcastInDim S1x2048x3072 _ _ _ = T
  blk_point [idx t]

/-- What the run leaves in the result array. -/
theorem final (c : Dev nD) : (dats m 0 c).arrAt 2 cfg0.N
    = rowsOut 3072 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, n, rfl⟩ := idx_plane 1024 1024 y
  refine (block_at _ _ _ _).trans (Eq.trans (Finset.sum_congr rfl fun k _ => congrArg₂ (· * ·) (blk_h m c t r k) (blk_w m c t k n)) ?_)
  refine (rowsOut_at 3072 _ _ _ ⟨(t : ℕ) % 32 * 1024 + r, by omega⟩ ⟨(t : ℕ) / 32 * 1024 + n, by have : (t : ℕ) < 96 := t.2; omega⟩ ?_ ?_).symm
  · blk_simp [idx t]
  · blk_simp [idx t]

/-- The reference's result. -/
theorem ref_eq (H : FVec Ideal S16x2048x2048 .bf16) (W : FVec Ideal S2048x3072 .bf16) :
    shapeCast Cert.Proj3RefIdeal.S1x32768x3072 (Host.dotGeneral (F := Ideal) Cert.Proj3RefIdeal.dot_S16x2048x2048_S2048x3072_S16x2048x3072_2_0_01_1_n_n none
      (extf .f32 H Cert.Proj3RefIdeal.Facts₀.bitsLt_bf16_f32) (extf .f32 W Cert.Proj3RefIdeal.Facts₀.bitsLt_bf16_f32)) Cert.Proj3RefIdeal.Facts₀.shapeCasts_S16x2048x3072_S1x32768x3072
    = rowsOut 3072 H W := by
  funext i
  unfold rowsOut
  pointwise

theorem frame_p : Cert.quiescent_Proj3 := fun m ρ _ => Cert.Proj3.Gen.frame m ρ
theorem frame_pi : Cert.quiescent_Proj3Ideal := fun m ρ _ => Cert.Proj3Ideal.Gen.frame m ρ
theorem frame_ri : Cert.quiescent_Proj3RefIdeal := fun m ρ _ =>
  (θ_run Cert.Proj3RefIdeal.defs _ _).mono (fun r h => ⟨fun c => (h c).2, Idealize.ShloMosaic.sem_eq_zero_of_no_sems (by decide) r.2⟩)
    (Cert.Proj3RefIdeal.Value.run (F := Ideal) m ρ)
theorem preserves : Cert.preserves_Proj3_Proj3Ideal := trivial

/-- The kernel and the reference end with equal results. -/
theorem algebraic : Cert.algebraic_Proj3Ideal_Proj3RefIdeal := by
  intro m ρ m' ρ' _ hagree
  refine ⟨fun c => rowsOut 3072 (m ((c.tc : Thread nD τ).loc main_arg0)) (m ((c.tc : Thread nD τ).loc main_arg1)),
    (θ_run defs _ _).mono (fun _ h c => ⟨(h c).1.trans (final m c), (h c).2⟩) (Cert.Proj3Ideal.Value.run_blocks (F := Ideal) m ρ), ?_⟩
  refine (θ_run Cert.Proj3RefIdeal.defs _ _).mono (fun _ h c => ⟨(h c).1.trans ?_, (h c).2⟩) (Cert.Proj3RefIdeal.Value.run (F := Ideal) m' ρ')
  obtain ⟨a0, a1⟩ := hagree c
  show _ = rowsOut 3072 _ _
  rw [← a0, ← a1]
  exact ref_eq _ _

end Cert.Proof.Proj3Claims

end
-- ==== Proof.Proj1Claims.lean ====
/- The claims about the in-projection's narrow group of 128 columns (the decay and beta logits, padded). -/
module

public import proofs.«01_k».proof.Defs
public import proofs.«01_k».proof.Proof.Gen.Proj1.Frame
public import proofs.«01_k».proof.Proof.Gen.Proj1Ideal.Value
public import proofs.«01_k».proof.Proof.Gen.Proj1RefIdeal.Run
public import proofs.«01_k».proof.Proof.Proj3Claims
public import Idealize.ShloMosaic.Lib.Quiescent

@[expose] public section

set_option maxRecDepth 16384

noncomputable section

namespace Cert.Proof.Proj1Claims

open Idealize.ShloMosaic Idealize.ShloMosaic.TcCoe Idealize.SL.Sem
open Cert.Proof.ProjRows Cert.Proj1Ideal Cert.Proj1Ideal.Gen

/-- The body at an index: the blocks' product. -/
theorem block_at (a : FVec Ideal S1x1024x2048 .bf16) (b : FVec Ideal S1x2048x128 .bf16) (r : Fin 1024) (n : Fin 128) :
    (k0_pay1 (F := Ideal) a b (ix3 0 r n) : EReal) = ∑ k : Fin 2048, a (ix3 0 r k) * b (ix3 0 k n) := by
  unfold k0_pay1
  pointwise

variable (m : (ℓ : Loc nD τ sig) → Buf (Elt Ideal) ℓ)

/-- The index maps: rows by the inner coordinate, columns by the outer. -/
theorem idx : ∀ t : Fin cfg0.N, win0_0.index t = ![0, (t : ℕ) % 32, 0] ∧ win0_1.index t = ![0, 0, (t : ℕ) / 32] ∧ win0_2.index t = ![0, (t : ℕ) % 32, (t : ℕ) / 32] :=
  (by decide +kernel : ∀ t : Fin grid0.N, _)

/-- The first window's array: the tokens as rows. -/
theorem entry_h (c : Dev nD) : V m c main_v0 = shapeCast S1x32768x2048 (m ((c : Thread nD τ).loc main_arg0) : FVec Ideal S16x2048x2048 .bf16) shapeCasts_S16x2048x2048_S1x32768x2048 := by
  simp only [V, hostOps0]
  entry_read
  rfl

/-- The second window's array: the weights. -/
theorem entry_w (c : Dev nD) : V m c main_v1 = broadcastInDim S1x2048x128 ![1, 2] bcast_S2048x128_S1x2048x128_1_2 (m ((c : Thread nD τ).loc main_arg1) : FVec Ideal S2048x128 .bf16) := by
  simp only [V, hostOps0]
  entry_read
  rfl

theorem weights_at (W : FVec Ideal S2048x128 .bf16) (k : Fin 2048) (n : Fin 128) :
    broadcastInDim S1x2048x128 ![1, 2] bcast_S2048x128_S1x2048x128_1_2 W (ix3 0 k n) = W (ix2 k n) := by
  pointwise

/-- A block of tokens. -/
theorem blk_h (c : Dev nD) (t : Fin cfg0.N) (r : Fin 1024) (k : Fin 2048) :
    (show FVec Ideal S1x1024x2048 .bf16 from iblk m c 0 t) (ix3 0 r k)
      = (m ((c : Thread nD τ).loc main_arg0) : FVec Ideal S16x2048x2048 .bf16) (ix3 ⟨((t : ℕ) % 32 * 1024 + r) / 2048, by omega⟩ ⟨((t : ℕ) % 32 * 1024 + r) % 2048, by omega⟩ k) := by
  refine Eq.trans ?_ (rows_at _ shapeCasts_S16x2048x2048_S1x32768x2048 ⟨(t : ℕ) % 32 * 1024 + r, by omega⟩ k)
  blk_simp [iblk, idx t]
  rw [entry_h]
  generalize shapeCast S1x32768x2048 _ _ = T
  blk_point [idx t]

/-- A block of the weights' columns. -/
theorem blk_w (c : Dev nD) (t : Fin cfg0.N) (k : Fin 2048) (n : Fin 128) :
    (show FVec Ideal S1x2048x128 .bf16 from iblk m c 1 t) (ix3 0 k n)
      = (m ((c : Thread nD τ).loc main_arg1) : FVec Ideal S2048x128 .bf16) (ix2 k ⟨(t : ℕ) / 32 * 128 + n, by have : (t : ℕ) < 32 := t.2; omega⟩) := by
  refine Eq.trans ?_ (weights_at _ _ _)
  blk_simp [iblk, idx t]
  rw [entry_w]
  generalize broadcastInDim S1x2048x128 _ _ _ = T
  blk_point [idx t]

/-- What the run leaves in the result array. -/
theorem final (c : Dev nD) : (dats m 0 c).arrAt 2 cfg0.N
    = rowsOut 128 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, n, rfl⟩ := idx_plane 1024 128 y
  refine (block_at _ _ _ _).trans (Eq.trans (Finset.sum_congr rfl fun k _ => congrArg₂ (· * ·) (blk_h m c t r k) (blk_w m c t k n)) ?_)
  refine (rowsOut_at 128 _ _ _ ⟨(t : ℕ) % 32 * 1024 + r, by omega⟩ ⟨(t : ℕ) / 32 * 128 + n, by have : (t : ℕ) < 32 := t.2; omega⟩ ?_ ?_).symm
  · blk_simp [idx t]
  · blk_simp [idx t]

/-- The reference's result. -/
theorem ref_eq (H : FVec Ideal S16x2048x2048 .bf16) (W : FVec Ideal S2048x128 .bf16) :
    shapeCast Cert.Proj1RefIdeal.S1x32768x128 (Host.dotGeneral (F := Ideal) Cert.Proj1RefIdeal.dot_S16x2048x2048_S2048x128_S16x2048x128_2_0_01_1_n_n none
      (extf .f32 H Cert.Proj1RefIdeal.Facts₀.bitsLt_bf16_f32) (extf .f32 W Cert.Proj1RefIdeal.Facts₀.bitsLt_bf16_f32)) Cert.Proj1RefIdeal.Facts₀.shapeCasts_S16x2048x128_S1x32768x128
    = rowsOut 128 H W := by
  funext i
  unfold rowsOut
  pointwise

theorem frame_p : Cert.quiescent_Proj1 := fun m ρ _ => Cert.Proj1.Gen.frame m ρ
theorem frame_pi : Cert.quiescent_Proj1Ideal := fun m ρ _ => Cert.Proj1Ideal.Gen.frame m ρ
theorem frame_ri : Cert.quiescent_Proj1RefIdeal := fun m ρ _ =>
  (θ_run Cert.Proj1RefIdeal.defs _ _).mono (fun r h => ⟨fun c => (h c).2, Idealize.ShloMosaic.sem_eq_zero_of_no_sems (by decide) r.2⟩)
    (Cert.Proj1RefIdeal.Value.run (F := Ideal) m ρ)
theorem preserves : Cert.preserves_Proj1_Proj1Ideal := trivial

/-- The kernel and the reference end with equal results. -/
theorem algebraic : Cert.algebraic_Proj1Ideal_Proj1RefIdeal := by
  intro m ρ m' ρ' _ hagree
  refine ⟨fun c => rowsOut 128 (m ((c.tc : Thread nD τ).loc main_arg0)) (m ((c.tc : Thread nD τ).loc main_arg1)),
    (θ_run defs _ _).mono (fun _ h c => ⟨(h c).1.trans (final m c), (h c).2⟩) (Cert.Proj1Ideal.Value.run_blocks (F := Ideal) m ρ), ?_⟩
  refine (θ_run Cert.Proj1RefIdeal.defs _ _).mono (fun _ h c => ⟨(h c).1.trans ?_, (h c).2⟩) (Cert.Proj1RefIdeal.Value.run (F := Ideal) m' ρ')
  obtain ⟨a0, a1⟩ := hagree c
  show _ = rowsOut 128 _ _
  rw [← a0, ← a1]
  exact ref_eq _ _

end Cert.Proof.Proj1Claims

end
-- ==== Proof.Proj4Claims.lean ====
/- The claims about the in-projection's columns in groups of 4096. -/
module

public import proofs.«01_k».proof.Defs
public import proofs.«01_k».proof.Proof.Gen.Proj4.Frame
public import proofs.«01_k».proof.Proof.Gen.Proj4Ideal.Value
public import proofs.«01_k».proof.Proof.Gen.Proj4RefIdeal.Run
public import proofs.«01_k».proof.Proof.Proj3Claims
public import Idealize.ShloMosaic.Lib.Quiescent

@[expose] public section

set_option maxRecDepth 16384

noncomputable section

namespace Cert.Proof.Proj4Claims

open Idealize.ShloMosaic Idealize.ShloMosaic.TcCoe Idealize.SL.Sem
open Cert.Proof.ProjRows Cert.Proj4Ideal Cert.Proj4Ideal.Gen

/-- The body at an index, the same product as for the groups of 3072. -/
theorem block_at (a : FVec Ideal S1x1024x2048 .bf16) (b : FVec Ideal S1x2048x1024 .bf16) (r : Fin 1024) (n : Fin 1024) :
    (k0_pay1 (F := Ideal) a b (ix3 0 r n) : EReal) = ∑ k : Fin 2048, a (ix3 0 r k) * b (ix3 0 k n) :=
  Proj3Claims.block_at a b r n

variable (m : (ℓ : Loc nD τ sig) → Buf (Elt Ideal) ℓ)

/-- The index maps: rows by the inner coordinate, columns by the outer. -/
theorem idx : ∀ t : Fin cfg0.N, win0_0.index t = ![0, (t : ℕ) % 32, 0] ∧ win0_1.index t = ![0, 0, (t : ℕ) / 32] ∧ win0_2.index t = ![0, (t : ℕ) % 32, (t : ℕ) / 32] :=
  (by decide +kernel : ∀ t : Fin grid0.N, _)

/-- The first window's array: the tokens as rows. -/
theorem entry_h (c : Dev nD) : V m c main_v0 = shapeCast S1x32768x2048 (m ((c : Thread nD τ).loc main_arg0) : FVec Ideal S16x2048x2048 .bf16) shapeCasts_S16x2048x2048_S1x32768x2048 := by
  simp only [V, hostOps0]
  entry_read
  rfl

/-- The second window's array: the weights. -/
theorem entry_w (c : Dev nD) : V m c main_v1 = broadcastInDim S1x2048x4096 ![1, 2] bcast_S2048x4096_S1x2048x4096_1_2 (m ((c : Thread nD τ).loc main_arg1) : FVec Ideal S2048x4096 .bf16) := by
  simp only [V, hostOps0]
  entry_read
  rfl

theorem weights_at (W : FVec Ideal S2048x4096 .bf16) (k : Fin 2048) (n : Fin 4096) :
    broadcastInDim S1x2048x4096 ![1, 2] bcast_S2048x4096_S1x2048x4096_1_2 W (ix3 0 k n) = W (ix2 k n) := by
  pointwise

/-- A block of tokens. -/
theorem blk_h (c : Dev nD) (t : Fin cfg0.N) (r : Fin 1024) (k : Fin 2048) :
    (show FVec Ideal S1x1024x2048 .bf16 from iblk m c 0 t) (ix3 0 r k)
      = (m ((c : Thread nD τ).loc main_arg0) : FVec Ideal S16x2048x2048 .bf16) (ix3 ⟨((t : ℕ) % 32 * 1024 + r) / 2048, by omega⟩ ⟨((t : ℕ) % 32 * 1024 + r) % 2048, by omega⟩ k) := by
  refine Eq.trans ?_ (rows_at _ shapeCasts_S16x2048x2048_S1x32768x2048 ⟨(t : ℕ) % 32 * 1024 + r, by omega⟩ k)
  blk_simp [iblk, idx t]
  rw [entry_h]
  generalize shapeCast S1x32768x2048 _ _ = T
  blk_point [idx t]

/-- A block of the weights' columns. -/
theorem blk_w (c : Dev nD) (t : Fin cfg0.N) (k : Fin 2048) (n : Fin 1024) :
    (show FVec Ideal S1x2048x1024 .bf16 from iblk m c 1 t) (ix3 0 k n)
      = (m ((c : Thread nD τ).loc main_arg1) : FVec Ideal S2048x4096 .bf16) (ix2 k ⟨(t : ℕ) / 32 * 1024 + n, by have : (t : ℕ) < 128 := t.2; omega⟩) := by
  refine Eq.trans ?_ (weights_at _ _ _)
  blk_simp [iblk, idx t]
  rw [entry_w]
  generalize broadcastInDim S1x2048x4096 _ _ _ = T
  blk_point [idx t]

/-- What the run leaves in the result array. -/
theorem final (c : Dev nD) : (dats m 0 c).arrAt 2 cfg0.N
    = rowsOut 4096 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, n, rfl⟩ := idx_plane 1024 1024 y
  refine (block_at _ _ _ _).trans (Eq.trans (Finset.sum_congr rfl fun k _ => congrArg₂ (· * ·) (blk_h m c t r k) (blk_w m c t k n)) ?_)
  refine (rowsOut_at 4096 _ _ _ ⟨(t : ℕ) % 32 * 1024 + r, by omega⟩ ⟨(t : ℕ) / 32 * 1024 + n, by have : (t : ℕ) < 128 := t.2; omega⟩ ?_ ?_).symm
  · blk_simp [idx t]
  · blk_simp [idx t]

/-- The reference's result. -/
theorem ref_eq (H : FVec Ideal S16x2048x2048 .bf16) (W : FVec Ideal S2048x4096 .bf16) :
    shapeCast Cert.Proj4RefIdeal.S1x32768x4096 (Host.dotGeneral (F := Ideal) Cert.Proj4RefIdeal.dot_S16x2048x2048_S2048x4096_S16x2048x4096_2_0_01_1_n_n none
      (extf .f32 H Cert.Proj4RefIdeal.Facts₀.bitsLt_bf16_f32) (extf .f32 W Cert.Proj4RefIdeal.Facts₀.bitsLt_bf16_f32)) Cert.Proj4RefIdeal.Facts₀.shapeCasts_S16x2048x4096_S1x32768x4096
    = rowsOut 4096 H W := by
  funext i
  unfold rowsOut
  pointwise

theorem frame_p : Cert.quiescent_Proj4 := fun m ρ _ => Cert.Proj4.Gen.frame m ρ
theorem frame_pi : Cert.quiescent_Proj4Ideal := fun m ρ _ => Cert.Proj4Ideal.Gen.frame m ρ
theorem frame_ri : Cert.quiescent_Proj4RefIdeal := fun m ρ _ =>
  (θ_run Cert.Proj4RefIdeal.defs _ _).mono (fun r h => ⟨fun c => (h c).2, Idealize.ShloMosaic.sem_eq_zero_of_no_sems (by decide) r.2⟩)
    (Cert.Proj4RefIdeal.Value.run (F := Ideal) m ρ)
theorem preserves : Cert.preserves_Proj4_Proj4Ideal := trivial

/-- The kernel and the reference end with equal results. -/
theorem algebraic : Cert.algebraic_Proj4Ideal_Proj4RefIdeal := by
  intro m ρ m' ρ' _ hagree
  refine ⟨fun c => rowsOut 4096 (m ((c.tc : Thread nD τ).loc main_arg0)) (m ((c.tc : Thread nD τ).loc main_arg1)),
    (θ_run defs _ _).mono (fun _ h c => ⟨(h c).1.trans (final m c), (h c).2⟩) (Cert.Proj4Ideal.Value.run_blocks (F := Ideal) m ρ), ?_⟩
  refine (θ_run Cert.Proj4RefIdeal.defs _ _).mono (fun _ h c => ⟨(h c).1.trans ?_, (h c).2⟩) (Cert.Proj4RefIdeal.Value.run (F := Ideal) m' ρ')
  obtain ⟨a0, a1⟩ := hagree c
  show _ = rowsOut 4096 _ _
  rw [← a0, ← a1]
  exact ref_eq _ _

end Cert.Proof.Proj4Claims

end
-- ==== Proof.Proj6Claims.lean ====
/- The claims about the in-projection's columns in groups of 6144. -/
module

public import proofs.«01_k».proof.Defs
public import proofs.«01_k».proof.Proof.Gen.Proj6.Frame
public import proofs.«01_k».proof.Proof.Gen.Proj6Ideal.Value
public import proofs.«01_k».proof.Proof.Gen.Proj6RefIdeal.Run
public import proofs.«01_k».proof.Proof.Proj3Claims
public import Idealize.ShloMosaic.Lib.Quiescent

@[expose] public section

set_option maxRecDepth 16384

noncomputable section

namespace Cert.Proof.Proj6Claims

open Idealize.ShloMosaic Idealize.ShloMosaic.TcCoe Idealize.SL.Sem
open Cert.Proof.ProjRows Cert.Proj6Ideal Cert.Proj6Ideal.Gen

/-- The body at an index, the same product as for the groups of 3072. -/
theorem block_at (a : FVec Ideal S1x1024x2048 .bf16) (b : FVec Ideal S1x2048x1024 .bf16) (r : Fin 1024) (n : Fin 1024) :
    (k0_pay1 (F := Ideal) a b (ix3 0 r n) : EReal) = ∑ k : Fin 2048, a (ix3 0 r k) * b (ix3 0 k n) :=
  Proj3Claims.block_at a b r n

variable (m : (ℓ : Loc nD τ sig) → Buf (Elt Ideal) ℓ)

/-- The index maps: rows by the inner coordinate, columns by the outer. -/
theorem idx : ∀ t : Fin cfg0.N, win0_0.index t = ![0, (t : ℕ) % 32, 0] ∧ win0_1.index t = ![0, 0, (t : ℕ) / 32] ∧ win0_2.index t = ![0, (t : ℕ) % 32, (t : ℕ) / 32] :=
  (by decide +kernel : ∀ t : Fin grid0.N, _)

/-- The first window's array: the tokens as rows. -/
theorem entry_h (c : Dev nD) : V m c main_v0 = shapeCast S1x32768x2048 (m ((c : Thread nD τ).loc main_arg0) : FVec Ideal S16x2048x2048 .bf16) shapeCasts_S16x2048x2048_S1x32768x2048 := by
  simp only [V, hostOps0]
  entry_read
  rfl

/-- The second window's array: the weights. -/
theorem entry_w (c : Dev nD) : V m c main_v1 = broadcastInDim S1x2048x6144 ![1, 2] bcast_S2048x6144_S1x2048x6144_1_2 (m ((c : Thread nD τ).loc main_arg1) : FVec Ideal S2048x6144 .bf16) := by
  simp only [V, hostOps0]
  entry_read
  rfl

theorem weights_at (W : FVec Ideal S2048x6144 .bf16) (k : Fin 2048) (n : Fin 6144) :
    broadcastInDim S1x2048x6144 ![1, 2] bcast_S2048x6144_S1x2048x6144_1_2 W (ix3 0 k n) = W (ix2 k n) := by
  pointwise

/-- A block of tokens. -/
theorem blk_h (c : Dev nD) (t : Fin cfg0.N) (r : Fin 1024) (k : Fin 2048) :
    (show FVec Ideal S1x1024x2048 .bf16 from iblk m c 0 t) (ix3 0 r k)
      = (m ((c : Thread nD τ).loc main_arg0) : FVec Ideal S16x2048x2048 .bf16) (ix3 ⟨((t : ℕ) % 32 * 1024 + r) / 2048, by omega⟩ ⟨((t : ℕ) % 32 * 1024 + r) % 2048, by omega⟩ k) := by
  refine Eq.trans ?_ (rows_at _ shapeCasts_S16x2048x2048_S1x32768x2048 ⟨(t : ℕ) % 32 * 1024 + r, by omega⟩ k)
  blk_simp [iblk, idx t]
  rw [entry_h]
  generalize shapeCast S1x32768x2048 _ _ = T
  blk_point [idx t]

/-- A block of the weights' columns. -/
theorem blk_w (c : Dev nD) (t : Fin cfg0.N) (k : Fin 2048) (n : Fin 1024) :
    (show FVec Ideal S1x2048x1024 .bf16 from iblk m c 1 t) (ix3 0 k n)
      = (m ((c : Thread nD τ).loc main_arg1) : FVec Ideal S2048x6144 .bf16) (ix2 k ⟨(t : ℕ) / 32 * 1024 + n, by have : (t : ℕ) < 192 := t.2; omega⟩) := by
  refine Eq.trans ?_ (weights_at _ _ _)
  blk_simp [iblk, idx t]
  rw [entry_w]
  generalize broadcastInDim S1x2048x6144 _ _ _ = T
  blk_point [idx t]

/-- What the run leaves in the result array. -/
theorem final (c : Dev nD) : (dats m 0 c).arrAt 2 cfg0.N
    = rowsOut 6144 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, n, rfl⟩ := idx_plane 1024 1024 y
  refine (block_at _ _ _ _).trans (Eq.trans (Finset.sum_congr rfl fun k _ => congrArg₂ (· * ·) (blk_h m c t r k) (blk_w m c t k n)) ?_)
  refine (rowsOut_at 6144 _ _ _ ⟨(t : ℕ) % 32 * 1024 + r, by omega⟩ ⟨(t : ℕ) / 32 * 1024 + n, by have : (t : ℕ) < 192 := t.2; omega⟩ ?_ ?_).symm
  · blk_simp [idx t]
  · blk_simp [idx t]

/-- The reference's result. -/
theorem ref_eq (H : FVec Ideal S16x2048x2048 .bf16) (W : FVec Ideal S2048x6144 .bf16) :
    shapeCast Cert.Proj6RefIdeal.S1x32768x6144 (Host.dotGeneral (F := Ideal) Cert.Proj6RefIdeal.dot_S16x2048x2048_S2048x6144_S16x2048x6144_2_0_01_1_n_n none
      (extf .f32 H Cert.Proj6RefIdeal.Facts₀.bitsLt_bf16_f32) (extf .f32 W Cert.Proj6RefIdeal.Facts₀.bitsLt_bf16_f32)) Cert.Proj6RefIdeal.Facts₀.shapeCasts_S16x2048x6144_S1x32768x6144
    = rowsOut 6144 H W := by
  funext i
  unfold rowsOut
  pointwise

theorem frame_p : Cert.quiescent_Proj6 := fun m ρ _ => Cert.Proj6.Gen.frame m ρ
theorem frame_pi : Cert.quiescent_Proj6Ideal := fun m ρ _ => Cert.Proj6Ideal.Gen.frame m ρ
theorem frame_ri : Cert.quiescent_Proj6RefIdeal := fun m ρ _ =>
  (θ_run Cert.Proj6RefIdeal.defs _ _).mono (fun r h => ⟨fun c => (h c).2, Idealize.ShloMosaic.sem_eq_zero_of_no_sems (by decide) r.2⟩)
    (Cert.Proj6RefIdeal.Value.run (F := Ideal) m ρ)
theorem preserves : Cert.preserves_Proj6_Proj6Ideal := trivial

/-- The kernel and the reference end with equal results. -/
theorem algebraic : Cert.algebraic_Proj6Ideal_Proj6RefIdeal := by
  intro m ρ m' ρ' _ hagree
  refine ⟨fun c => rowsOut 6144 (m ((c.tc : Thread nD τ).loc main_arg0)) (m ((c.tc : Thread nD τ).loc main_arg1)),
    (θ_run defs _ _).mono (fun _ h c => ⟨(h c).1.trans (final m c), (h c).2⟩) (Cert.Proj6Ideal.Value.run_blocks (F := Ideal) m ρ), ?_⟩
  refine (θ_run Cert.Proj6RefIdeal.defs _ _).mono (fun _ h c => ⟨(h c).1.trans ?_, (h c).2⟩) (Cert.Proj6RefIdeal.Value.run (F := Ideal) m' ρ')
  obtain ⟨a0, a1⟩ := hagree c
  show _ = rowsOut 6144 _ _
  rw [← a0, ← a1]
  exact ref_eq _ _

end Cert.Proof.Proj6Claims

end
-- ==== Proof.Gate.lean ====
/- The logistic function in the kernel's form, by the hyperbolic tangent. -/
module

public import Idealize.ShloMosaic.Lib.Pointwise

@[expose] public section

noncomputable section

namespace Cert.Proof.Gate

open Idealize.ShloMosaic

theorem ofBits_half : Ideal.ofBits FTy.f32 0x3F000000#32 = ((1 / 2 : ℝ) : EReal) := by
  simp [Ideal.ofBits, Ideal.ieee, -EReal.coe_mul]; norm_num

/-- Half of one plus the hyperbolic tangent of half the argument is the logistic function, at the infinities too. -/
theorem gate_eq (x : EReal) : Ideal.ofBits FTy.f32 0x3F000000#32 * (1 + Ideal.tanh (Ideal.ofBits FTy.f32 0x3F000000#32 * x)) = Ideal.div 1 (1 + Ideal.exp (-x)) := by
  rw [ofBits_half]
  induction x with
  | bot =>
    rw [EReal.coe_mul_bot_of_pos (by norm_num), Ideal.tanh_bot, EReal.neg_bot, Ideal.exp_top]
    have h : (1 : EReal) + -1 = 0 := by
      rw [← EReal.coe_one, ← EReal.coe_neg, ← EReal.coe_add]; norm_num
    rw [h, mul_zero]
    have h2 : (1 : EReal) + ⊤ = ⊤ := by rw [← EReal.coe_one, EReal.coe_add_top]
    rw [h2, Ideal.div, if_neg EReal.top_ne_zero, EReal.inv_top, mul_zero]
  | top =>
    rw [EReal.coe_mul_top_of_pos (by norm_num), Ideal.tanh_top, EReal.neg_top, Ideal.exp_bot, add_zero]
    rw [← EReal.coe_one, ← EReal.coe_add, ← EReal.coe_mul, Ideal.div_coe one_ne_zero, ← EReal.coe_mul]
    norm_num
  | coe r =>
    rw [← EReal.coe_mul, Ideal.tanh_coe, ← EReal.coe_neg, Ideal.exp_coe, ← EReal.coe_one, ← EReal.coe_add, ← EReal.coe_add,
      Ideal.div_coe (by positivity), ← EReal.coe_mul, ← EReal.coe_mul]
    refine congrArg _ ?_
    have e : Real.exp (-r) = Real.exp (-(1 / 2 * r)) / Real.exp (1 / 2 * r) := by rw [← Real.exp_sub]; congr 1; ring
    have p := Real.exp_pos (1 / 2 * r)
    have q := Real.exp_pos (-(1 / 2 * r))
    rw [e, Real.tanh_eq_sinh_div_cosh, Real.sinh_eq, Real.cosh_eq]
    field_simp
    ring

end Cert.Proof.Gate

end
-- ==== Proof.ExpertsClaims.lean ====
/- The claims about the experts' feed-forward networks. -/
module

public import proofs.«01_k».proof.Defs
public import proofs.«01_k».proof.Proof.Gen.Experts.Frame
public import proofs.«01_k».proof.Proof.Gen.ExpertsIdeal.Value
public import proofs.«01_k».proof.Proof.Gen.ExpertsRefIdeal.Run
public import proofs.«01_k».proof.Proof.Gate
public import proofs.«01_k».proof.Proof.ProjRows
public import Idealize.ShloMosaic.Lib.Quiescent

@[expose] public section

set_option maxRecDepth 16384

noncomputable section

namespace Cert.Proof.ExpertsClaims

open Idealize.ShloMosaic Idealize.ShloMosaic.TcCoe Idealize.SL.Sem
open Cert.Proof.ProjRows Cert.Proof.Gate

section
open Cert.ExpertsIdeal Cert.ExpertsIdeal.Gen

/-- A hidden lane from its two products: the first times its logistic function, times the second. -/
def swi (a u : EReal) : EReal := a * Ideal.div 1 (1 + Ideal.exp (-a)) * u

/-- One entry of a token's result: the hidden lanes times a column of the last weights, times the token's gate. -/
def ffn (x : Fin 2048 → EReal) (wg wu : Fin 2048 → Fin 1024 → EReal) (wd : Fin 1024 → EReal) (s : EReal) : EReal :=
  (∑ f : Fin 1024, swi (∑ k : Fin 2048, x k * wg k f) (∑ k : Fin 2048, x k * wu k f) * wd f) * s

/-- The whole array: row `r` of an expert is token `r % 256` of batch element `r / 256`. -/
def arrOut (X : FVec Ideal S16x16x256x2048 .bf16) (S : FVec Ideal S16x16x256x1 .f32) (A U : FVec Ideal S16x2048x1024 .f32) (D : FVec Ideal S16x1024x2048 .f32) :
    FVec Ideal S16x4096x2048 .bf16 := fun i =>
  ffn (fun k => X (ix4 (i 0) ⟨(i 1 : ℕ) / 256, by have : (i 1 : ℕ) < 4096 := (i 1).2; omega⟩ ⟨(i 1 : ℕ) % 256, by omega⟩ k)) (fun k f => A (ix3 (i 0) k f)) (fun k f => U (ix3 (i 0) k f)) (fun f => D (ix3 (i 0) f (i 2)))
    (S (ix4 (i 0) ⟨(i 1 : ℕ) / 256, by have : (i 1 : ℕ) < 4096 := (i 1).2; omega⟩ ⟨(i 1 : ℕ) % 256, by omega⟩ 0))

theorem arrOut_at (X : FVec Ideal S16x16x256x2048 .bf16) (S : FVec Ideal S16x16x256x1 .f32) (A U : FVec Ideal S16x2048x1024 .f32) (D : FVec Ideal S16x1024x2048 .f32)
    (i : S16x4096x2048.Idx) (e : Fin 16) (r : Fin 4096) (d : Fin 2048) (h0 : (i 0 : ℕ) = e) (h1 : (i 1 : ℕ) = r) (h2 : (i 2 : ℕ) = d) :
    arrOut X S A U D i = ffn (fun k => X (ix4 e ⟨(r : ℕ) / 256, by omega⟩ ⟨(r : ℕ) % 256, by omega⟩ k)) (fun k f => A (ix3 e k f)) (fun k f => U (ix3 e k f)) (fun f => D (ix3 e f d))
      (S (ix4 e ⟨(r : ℕ) / 256, by omega⟩ ⟨(r : ℕ) % 256, by omega⟩ 0)) := by
  obtain rfl : i 0 = e := Fin.ext h0
  obtain rfl : i 1 = r := Fin.ext h1
  obtain rfl : i 2 = d := Fin.ext h2
  rfl

/-- The body at an index. -/
theorem block_at (x : FVec Ideal S1x512x2048 .bf16) (a u : FVec Ideal S1x2048x1024 .bf16) (w : FVec Ideal S1x1024x2048 .bf16) (s : FVec Ideal S1x512x1 .f32)
    (r : Fin 512) (d : Fin 2048) : (k0_pay1 (F := Ideal) x a u w s (ix3 0 r d) : EReal)
      = ffn (fun k => x (ix3 0 r k)) (fun k f => a (ix3 0 k f)) (fun k f => u (ix3 0 k f)) (fun f => w (ix3 0 f d)) (s (ix3 0 r 0)) := by
  simp only [ffn, swi, ← gate_eq]
  unfold k0_pay1
  pointwise

variable (m : (ℓ : Loc nD τ sig) → Buf (Elt Ideal) ℓ)

/-- The index maps: expert and rows. -/
theorem idx : ∀ t : Fin cfg0.N, win0_0.index t = ![(t : ℕ) / 8, (t : ℕ) % 8, 0] ∧ win0_1.index t = ![(t : ℕ) / 8, (t : ℕ) % 8, 0]
    ∧ win0_2.index t = ![(t : ℕ) / 8, 0, 0] ∧ win0_3.index t = ![(t : ℕ) / 8, 0, 0] ∧ win0_4.index t = ![(t : ℕ) / 8, 0, 0]
    ∧ win0_5.index t = ![(t : ℕ) / 8, (t : ℕ) % 8, 0] :=
  (by decide +kernel : ∀ t : Fin grid0.N, _)

/-- The arrays of the windows: the tokens and their gates row by row, the weights as they are. -/
theorem entry_x (c : Dev nD) : V m c main_v3 = shapeCast S16x4096x2048 (m ((c : Thread nD τ).loc main_arg0) : FVec Ideal S16x16x256x2048 .bf16) shapeCasts_S16x16x256x2048_S16x4096x2048 := by
  simp only [V, hostOps0]
  entry_read
  rfl

theorem entry_s (c : Dev nD) : V m c main_v4 = shapeCast S16x4096x1 (m ((c : Thread nD τ).loc main_arg1) : FVec Ideal S16x16x256x1 .f32) shapeCasts_S16x16x256x1_S16x4096x1 := by
  simp only [V, hostOps0]
  entry_read
  rfl

theorem entry_a (c : Dev nD) : V m c main_v0 = truncf (F := Ideal) .bf16 (m ((c : Thread nD τ).loc main_arg2) : FVec Ideal S16x2048x1024 .f32) bitsLt_bf16_f32 := by
  simp only [V, hostOps0]
  entry_read
  rfl

theorem entry_u (c : Dev nD) : V m c main_v1 = truncf (F := Ideal) .bf16 (m ((c : Thread nD τ).loc main_arg3) : FVec Ideal S16x2048x1024 .f32) bitsLt_bf16_f32 := by
  simp only [V, hostOps0]
  entry_read
  rfl

theorem entry_d (c : Dev nD) : V m c main_v2 = truncf (F := Ideal) .bf16 (m ((c : Thread nD τ).loc main_arg4) : FVec Ideal S16x1024x2048 .f32) bitsLt_bf16_f32 := by
  simp only [V, hostOps0]
  entry_read
  rfl

theorem tokens_at (X : FVec Ideal S16x16x256x2048 .bf16) (e : Fin 16) (r : Fin 4096) (k : Fin 2048) :
    shapeCast S16x4096x2048 X shapeCasts_S16x16x256x2048_S16x4096x2048 (ix3 e r k) = X (ix4 e ⟨(r : ℕ) / 256, by omega⟩ ⟨(r : ℕ) % 256, by omega⟩ k) := by
  pointwise

theorem gates_at (S : FVec Ideal S16x16x256x1 .f32) (e : Fin 16) (r : Fin 4096) :
    shapeCast S16x4096x1 S shapeCasts_S16x16x256x1_S16x4096x1 (ix3 e r 0) = S (ix4 e ⟨(r : ℕ) / 256, by omega⟩ ⟨(r : ℕ) % 256, by omega⟩ 0) := by
  pointwise

section
variable (c : Dev nD) (t : Fin cfg0.N)

theorem lt128 : (t : ℕ) < 128 := t.2

/-- A block of tokens, -/
theorem blk_x (r : Fin 512) (k : Fin 2048) : (show FVec Ideal S1x512x2048 .bf16 from iblk m c 0 t) (ix3 0 r k)
      = (m ((c : Thread nD τ).loc main_arg0) : FVec Ideal S16x16x256x2048 .bf16) (ix4 ⟨(t : ℕ) / 8, by have := lt128 t; omega⟩ ⟨((t : ℕ) % 8 * 512 + r) / 256, by omega⟩ ⟨((t : ℕ) % 8 * 512 + r) % 256, by omega⟩ k) := by
  refine Eq.trans ?_ (tokens_at _ _ ⟨(t : ℕ) % 8 * 512 + r, by omega⟩ _)
  blk_simp [iblk, idx t]
  rw [entry_x]
  generalize shapeCast S16x4096x2048 _ _ = T
  blk_point [idx t]

/-- of their gates, -/
theorem blk_s (r : Fin 512) : (show FVec Ideal S1x512x1 .f32 from iblk m c 1 t) (ix3 0 r 0)
      = (m ((c : Thread nD τ).loc main_arg1) : FVec Ideal S16x16x256x1 .f32) (ix4 ⟨(t : ℕ) / 8, by have := lt128 t; omega⟩ ⟨((t : ℕ) % 8 * 512 + r) / 256, by omega⟩ ⟨((t : ℕ) % 8 * 512 + r) % 256, by omega⟩ 0) := by
  refine Eq.trans ?_ (gates_at _ _ ⟨(t : ℕ) % 8 * 512 + r, by omega⟩)
  blk_simp [iblk, idx t]
  rw [entry_s]
  generalize shapeCast S16x4096x1 _ _ = T
  blk_point [idx t]

/-- and the expert's weights. -/
theorem blk_a (k : Fin 2048) (f : Fin 1024) : (show FVec Ideal S1x2048x1024 .bf16 from iblk m c 2 t) (ix3 0 k f)
      = (m ((c : Thread nD τ).loc main_arg2) : FVec Ideal S16x2048x1024 .f32) (ix3 ⟨(t : ℕ) / 8, by have := lt128 t; omega⟩ k f) := by
  blk_simp [iblk, idx t]
  rw [entry_a]
  blk_point [idx t]

theorem blk_u (k : Fin 2048) (f : Fin 1024) : (show FVec Ideal S1x2048x1024 .bf16 from iblk m c 3 t) (ix3 0 k f)
      = (m ((c : Thread nD τ).loc main_arg3) : FVec Ideal S16x2048x1024 .f32) (ix3 ⟨(t : ℕ) / 8, by have := lt128 t; omega⟩ k f) := by
  blk_simp [iblk, idx t]
  rw [entry_u]
  blk_point [idx t]

theorem blk_d (f : Fin 1024) (d : Fin 2048) : (show FVec Ideal S1x1024x2048 .bf16 from iblk m c 4 t) (ix3 0 f d)
      = (m ((c : Thread nD τ).loc main_arg4) : FVec Ideal S16x1024x2048 .f32) (ix3 ⟨(t : ℕ) / 8, by have := lt128 t; omega⟩ f d) := by
  blk_simp [iblk, idx t]
  rw [entry_d]
  blk_point [idx t]

end

/-- Equal ingredients give equal entries. -/
theorem ffn_congr {x x' : Fin 2048 → EReal} {a a' u u' : Fin 2048 → Fin 1024 → EReal} {w w' : Fin 1024 → EReal} {s s' : EReal}
    (hx : ∀ k, x k = x' k) (ha : ∀ k f, a k f = a' k f) (hu : ∀ k f, u k f = u' k f) (hw : ∀ f, w f = w' f) (hs : s = s') :
    ffn x a u w s = ffn x' a' u' w' s' := by
  obtain rfl : x = x' := funext hx
  obtain rfl : a = a' := funext fun k => funext (ha k)
  obtain rfl : u = u' := funext fun k => funext (hu k)
  obtain rfl : w = w' := funext hw
  rw [hs]

/-- What the run leaves in the result array. -/
theorem final (c : Dev nD) : (dats m 0 c).arrAt 5 cfg0.N = arrOut (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  obtain ⟨r, d, rfl⟩ := idx_plane 512 2048 y
  refine (block_at _ _ _ _ _ _ _).trans ?_
  refine (ffn_congr (blk_x m c t r) (blk_a m c t) (blk_u m c t) (fun f => blk_d m c t f d) (blk_s m c t r)).trans ?_
  refine (arrOut_at _ _ _ _ _ _ _ ⟨(t : ℕ) % 8 * 512 + r, by omega⟩ _ ?_ ?_ ?_).symm
  · blk_simp [idx t]
    exact Nat.add_zero _
  · blk_simp [idx t]
  · blk_simp [idx t]

end

theorem frame_p : Cert.quiescent_Experts := fun m ρ _ => Cert.Experts.Gen.frame m ρ
theorem frame_pi : Cert.quiescent_ExpertsIdeal := fun m ρ _ => Cert.ExpertsIdeal.Gen.frame m ρ
theorem frame_ri : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)
theorem preserves : Cert.preserves_Experts_ExpertsIdeal := trivial

section
open Cert.ExpertsRefIdeal Cert.ExpertsRefIdeal.Facts₀

/-- The reference's result. -/
theorem ref_eq (X : FVec Ideal S16x16x256x2048 .bf16) (S : FVec Ideal S16x16x256x1 .f32) (A U : FVec Ideal S16x2048x1024 .f32) (D : FVec Ideal S16x1024x2048 .f32) :
    shapeCast _ (truncf .bf16 (mulf (Host.dotGeneral (F := Ideal) dot_S16x16x256x1024_S16x1024x2048_S16x16x256x2048_3_1_12_2_0_0 none (mulf (mulf (Host.dotGeneral dot_S16x16x256x2048_S16x2048x1024_S16x16x256x1024_3_1_12_2_0_0 none (extf .f32 X bitsLt_bf16_f32) A) (Host.divf (broadcastInDim S16x16x256x1024 ![] bcast_S_S16x16x256x1024 (constant S_ .f32 0x3F800000#32)) (addf (broadcastInDim S16x16x256x1024 ![] bcast_S_S16x16x256x1024 (constant S_ .f32 0x3F800000#32)) (Host.exp (Host.negf (Host.dotGeneral dot_S16x16x256x2048_S16x2048x1024_S16x16x256x1024_3_1_12_2_0_0 none (extf .f32 X bitsLt_bf16_f32) A)))))) (Host.dotGeneral dot_S16x16x256x2048_S16x2048x1024_S16x16x256x1024_3_1_12_2_0_0 none (extf .f32 X bitsLt_bf16_f32) U)) D) (broadcastInDim S16x16x256x2048 ![0, 1, 2, 3] bcast_S16x16x256x1_S16x16x256x2048_0_1_2_3 S)) bitsLt_bf16_f32) shapeCasts_S16x16x256x2048_S16x4096x2048
    = arrOut X S A U D := by
  funext i
  idx_vars i
  unfold arrOut ffn swi
  pointwise

end

/-- The kernel and the reference end with equal results. -/
theorem algebraic : Cert.algebraic_ExpertsIdeal_ExpertsRefIdeal := by
  intro m ρ m' ρ' _ hagree
  refine ⟨fun c => arrOut (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)),
    (θ_run Cert.ExpertsIdeal.defs _ _).mono (fun _ h c => ⟨(h c).1.trans (final m c), (h c).2⟩) (Cert.ExpertsIdeal.Value.run_blocks (F := Ideal) m ρ), ?_⟩
  refine (θ_run Cert.ExpertsRefIdeal.defs _ _).mono (fun _ h c => ⟨(h c).1.trans ?_, (h c).2⟩) (Cert.ExpertsRefIdeal.Value.run (F := Ideal) m' ρ')
  obtain ⟨a0, a1, a2, a3, a4⟩ := hagree c
  show _ = arrOut _ _ _ _ _
  rw [← a0, ← a1, ← a2, ← a3, ← a4]
  exact ref_eq _ _ _ _ _

end Cert.Proof.ExpertsClaims

end
-- ==== Proof.MergeClaims.lean ====
/- The claims about the gated merge of the three branches. -/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gate
public import Idealize.ShloMosaic.Lib.Pipeline.ValueKit
public import Idealize.ShloMosaic.Lib.Quiescent

@[expose] public section

set_option maxRecDepth 16384

noncomputable section

namespace Cert.Proof.MergeClaims

open Idealize.ShloMosaic Idealize.ShloMosaic.TcCoe Idealize.SL.Sem
open Cert.Proof.Gate

section
open Cert.MergeIdeal Cert.MergeIdeal.Gen

/-- One branch's part of an entry: the logistic function of its gate times a row by a column. -/
def part (g : EReal) (b w : Fin 1024 → EReal) : EReal := Ideal.div 1 (1 + Ideal.exp (-g)) * ∑ k : Fin 1024, b k * w k

theorem part_congr {g g' : EReal} {b b' w w' : Fin 1024 → EReal} (hg : g = g') (hb : ∀ k, b k = b' k) (hw : ∀ k, w k = w' k) : part g b w = part g' b' w' := by
  obtain rfl : b = b' := funext hb
  obtain rfl : w = w' := funext hw
  rw [hg]

/-- The three parts of the entry at row `r` and column `n`. -/
def entry (A B C : FVec Ideal S32768x1024 .bf16) (G : FVec Ideal S32768x6144 .f32) (W : FVec Ideal S3x1024x2048 .bf16) (r : Fin 32768) (n : Fin 2048) : EReal :=
  part (G (ix2 r ⟨(n : ℕ), by omega⟩)) (fun k => A (ix2 r k)) (fun k => W (ix3 0 k n))
    + part (G (ix2 r ⟨2048 + (n : ℕ), by omega⟩)) (fun k => B (ix2 r k)) (fun k => W (ix3 1 k n))
    + part (G (ix2 r ⟨4096 + (n : ℕ), by omega⟩)) (fun k => C (ix2 r k)) (fun k => W (ix3 2 k n))

/-- The whole array, from the branches and the gates row by row. -/
def rowsOut (A B C : FVec Ideal S32768x1024 .bf16) (G : FVec Ideal S32768x6144 .f32) (W : FVec Ideal S3x1024x2048 .bf16) : FVec Ideal S32768x2048 .bf16 := fun i =>
  entry A B C G W (i 0) (i 1)

theorem rowsOut_at (A B C : FVec Ideal S32768x1024 .bf16) (G : FVec Ideal S32768x6144 .f32) (W : FVec Ideal S3x1024x2048 .bf16) (i : S32768x2048.Idx)
    (r : Fin 32768) (n : Fin 2048) (h0 : (i 0 : ℕ) = r) (h1 : (i 1 : ℕ) = n) : rowsOut A B C G W i = entry A B C G W r n := by
  obtain rfl : i 0 = r := Fin.ext h0
  obtain rfl : i 1 = n := Fin.ext h1
  rfl

/-- The branches and the gates row by row: row `r` is token `r % 2048` of batch element `r / 2048`. -/
def flat (A : FVec Ideal S16x2048x1024 .bf16) : FVec Ideal S32768x1024 .bf16 := shapeCast S32768x1024 A shapeCasts_S16x2048x1024_S32768x1024
def flatGates (G : FVec Ideal S16x2048x6144 .f32) : FVec Ideal S32768x6144 .f32 := shapeCast S32768x6144 G shapeCasts_S16x2048x6144_S32768x6144

theorem flat_at (A : FVec Ideal S16x2048x1024 .bf16) (r : Fin 32768) (k : Fin 1024) : flat A (ix2 r k) = A (ix3 ⟨(r : ℕ) / 2048, by omega⟩ ⟨(r : ℕ) % 2048, by omega⟩ k) := by
  unfold flat
  pointwise

theorem flatGates_at (G : FVec Ideal S16x2048x6144 .f32) (r : Fin 32768) (k : Fin 6144) :
    flatGates G (ix2 r k) = G (ix3 ⟨(r : ℕ) / 2048, by omega⟩ ⟨(r : ℕ) % 2048, by omega⟩ k) := by
  unfold flatGates
  pointwise

/-- The whole array. -/
def arrOut (A B C : FVec Ideal S16x2048x1024 .bf16) (G : FVec Ideal S16x2048x6144 .f32) (W : FVec Ideal S3x1024x2048 .f32) : FVec Ideal S32768x2048 .bf16 :=
  rowsOut (flat A) (flat B) (flat C) (flatGates G) (truncf (F := Ideal) .bf16 W bitsLt_bf16_f32)

/-- The body at an index. -/
theorem block_at (a b d : FVec Ideal S512x1024 .bf16) (ga gb gd : FVec Ideal S512x512 .f32) (wa wb wd : FVec Ideal S1x1024x512 .bf16) (r n : Fin 512) :
    (k0_pay1 (F := Ideal) (k0_pay2 ga a wa gb b wb) (k0_pay3 gd) (Scalar.ofBits .f32 0x3F000000#32) d wd (ix2 r n) : EReal)
      = part (ga (ix2 r n)) (fun k => a (ix2 r k)) (fun k => wa (ix3 0 k n)) + part (gb (ix2 r n)) (fun k => b (ix2 r k)) (fun k => wb (ix3 0 k n))
        + part (gd (ix2 r n)) (fun k => d (ix2 r k)) (fun k => wd (ix3 0 k n)) := by
  simp only [part, ← gate_eq]
  unfold k0_pay1 k0_pay2 k0_pay3
  pointwise

variable (m : (ℓ : Loc nD τ sig) → Buf (Elt Ideal) ℓ)

/-- The index maps: columns and rows. -/
theorem idx : ∀ t : Fin cfg0.N, win0_0.index t = ![(t : ℕ) % 64, 0] ∧ win0_1.index t = ![(t : ℕ) % 64, 0] ∧ win0_2.index t = ![(t : ℕ) % 64, 0]
    ∧ win0_3.index t = ![(t : ℕ) % 64, (t : ℕ) / 64] ∧ win0_4.index t = ![(t : ℕ) % 64, 4 + (t : ℕ) / 64] ∧ win0_5.index t = ![(t : ℕ) % 64, 8 + (t : ℕ) / 64]
    ∧ win0_6.index t = ![0, 0, (t : ℕ) / 64] ∧ win0_7.index t = ![(t : ℕ) % 64, (t : ℕ) / 64] :=
  (by decide +kernel : ∀ t : Fin grid0.N, _)

/-- The arrays of the windows. -/
theorem entry_a (c : Dev nD) : V m c main_v1 = flat (m ((c : Thread nD τ).loc main_arg0)) := by
  simp only [V, hostOps0]
  entry_read
  rfl

theorem entry_b (c : Dev nD) : V m c main_v2 = flat (m ((c : Thread nD τ).loc main_arg1)) := by
  simp only [V, hostOps0]
  entry_read
  rfl

theorem entry_d (c : Dev nD) : V m c main_v3 = flat (m ((c : Thread nD τ).loc main_arg2)) := by
  simp only [V, hostOps0]
  entry_read
  rfl

theorem entry_g (c : Dev nD) : V m c main_v4 = flatGates (m ((c : Thread nD τ).loc main_arg3)) := by
  simp only [V, hostOps0]
  entry_read
  rfl

theorem entry_w (c : Dev nD) : V m c main_v0 = truncf (F := Ideal) .bf16 (m ((c : Thread nD τ).loc main_arg4) : FVec Ideal S3x1024x2048 .f32) bitsLt_bf16_f32 := by
  simp only [V, hostOps0]
  entry_read
  rfl

section
variable (c : Dev nD) (t : Fin cfg0.N)

theorem lt256 : (t : ℕ) < 256 := t.2

/-- The row and the column of the result that entry (`r`, `n`) of block `t` is. -/
def row (r : Fin 512) : Fin 32768 := ⟨(t : ℕ) % 64 * 512 + r, by omega⟩
def col (n : Fin 512) : Fin 2048 := ⟨(t : ℕ) / 64 * 512 + n, by have := lt256 t; omega⟩

/-- The blocks of the branches, -/
theorem blk_a (r : Fin 512) (k : Fin 1024) : (show FVec Ideal S512x1024 .bf16 from iblk m c 0 t) (ix2 r k)
      = flat (m ((c : Thread nD τ).loc main_arg0)) (ix2 (row t r) k) := by
  unfold row
  blk_simp [iblk, idx t]
  rw [entry_a]
  generalize flat _ = T
  blk_point [idx t]

theorem blk_b (r : Fin 512) (k : Fin 1024) : (show FVec Ideal S512x1024 .bf16 from iblk m c 1 t) (ix2 r k)
      = flat (m ((c : Thread nD τ).loc main_arg1)) (ix2 (row t r) k) := by
  unfold row
  blk_simp [iblk, idx t]
  rw [entry_b]
  generalize flat _ = T
  blk_point [idx t]

theorem blk_d (r : Fin 512) (k : Fin 1024) : (show FVec Ideal S512x1024 .bf16 from iblk m c 2 t) (ix2 r k)
      = flat (m ((c : Thread nD τ).loc main_arg2)) (ix2 (row t r) k) := by
  unfold row
  blk_simp [iblk, idx t]
  rw [entry_d]
  generalize flat _ = T
  blk_point [idx t]

/-- of the three gates, -/
theorem blk_ga (r n : Fin 512) : (show FVec Ideal S512x512 .f32 from iblk m c 3 t) (ix2 r n)
      = flatGates (m ((c : Thread nD τ).loc main_arg3)) (ix2 (row t r) ⟨(col t n : ℕ), by omega⟩) := by
  unfold row col
  blk_simp [iblk, idx t]
  rw [entry_g]
  generalize flatGates _ = T
  blk_point [idx t]

theorem blk_gb (r n : Fin 512) : (show FVec Ideal S512x512 .f32 from iblk m c 4 t) (ix2 r n)
      = flatGates (m ((c : Thread nD τ).loc main_arg3)) (ix2 (row t r) ⟨2048 + (col t n : ℕ), by omega⟩) := by
  unfold row col
  blk_simp [iblk, idx t]
  rw [entry_g]
  generalize flatGates _ = T
  blk_point [idx t]

theorem blk_gd (r n : Fin 512) : (show FVec Ideal S512x512 .f32 from iblk m c 5 t) (ix2 r n)
      = flatGates (m ((c : Thread nD τ).loc main_arg3)) (ix2 (row t r) ⟨4096 + (col t n : ℕ), by omega⟩) := by
  unfold row col
  blk_simp [iblk, idx t]
  rw [entry_g]
  generalize flatGates _ = T
  blk_point [idx t]

/-- and of the weights, one plane for each branch. -/
theorem blk_w (q : Fin 3) (k : Fin 1024) (n : Fin 512) : (show FVec Ideal S3x1024x512 .bf16 from iblk m c 6 t) (ix3 q k n)
      = (truncf (F := Ideal) .bf16 (m ((c : Thread nD τ).loc main_arg4) : FVec Ideal S3x1024x2048 .f32) bitsLt_bf16_f32) (ix3 q k (col t n)) := by
  unfold col
  blk_simp [iblk, idx t]
  rw [entry_w]
  generalize truncf (F := Ideal) .bf16 _ _ = T
  blk_point [idx t]

end

/-- A load of plane `p` of the weights. -/
theorem ld_w (p : Fin 3) (inb : ∀ a, (![(p : ℕ), 0, 0] : Fin 3 → ℕ) a + S1x1024x512.size a ≤ S3x1024x512.size a) (x : FVec Ideal S3x1024x512 .bf16)
    (k : Fin 1024) (n : Fin 512) : x ((Rect.unit (s := S3x1024x512) ![(p : ℕ), 0, 0] S1x1024x512.size inb).emb (ix3 0 k n)) = x (ix3 p k n) := by
  refine congrArg x ?_
  funext a
  refine Fin.ext ((ValueKit.rect_emb_unit_val _ _ _ _ _).trans ?_)
  match a with
  | 0 => exact Nat.add_zero _
  | 1 => exact Nat.zero_add _
  | 2 => exact Nat.zero_add _

/-- An index of a block is its row and its column. -/
theorem idx_pair (y : S512x512.Idx) : ∃ r n : Fin 512, y = ix2 r n := by
  refine ⟨y 0, y 1, ?_⟩
  funext a
  match a with
  | 0 => rfl
  | 1 => rfl

/-- What the run leaves in the result array. -/
theorem final (c : Dev nD) : (dats m 0 c).arrAt 7 cfg0.N = arrOut (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  obtain ⟨r, n, rfl⟩ := idx_pair y
  refine (block_at _ _ _ _ _ _ _ _ _ _ _).trans ?_
  refine (congrArg₂ (· + ·) (congrArg₂ (· + ·)
    (part_congr (blk_ga m c t r n) (blk_a m c t r) fun k => (ld_w 0 _ _ k n).trans (blk_w m c t 0 k n))
    (part_congr (blk_gb m c t r n) (blk_b m c t r) fun k => (ld_w 1 _ _ k n).trans (blk_w m c t 1 k n)))
    (part_congr (blk_gd m c t r n) (blk_d m c t r) fun k => (ld_w 2 _ _ k n).trans (blk_w m c t 2 k n))).trans ?_
  refine (rowsOut_at _ _ _ _ _ _ (row t r) (col t n) ?_ ?_).symm
  · unfold row
    blk_simp [idx t]
  · unfold col
    blk_simp [idx t]

end

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)
theorem preserves : Cert.preserves_Merge_MergeIdeal := trivial

section
open Cert.MergeRefIdeal Cert.MergeRefIdeal.Facts₀

/-- The reference's gates: the logistic function of the columns, taken in three groups. -/
def gates (G : FVec Ideal S16x2048x6144 .f32) : FVec Ideal S16x2048x3x2048 .f32 :=
  Host.divf (broadcastInDim S16x2048x3x2048 ![] bcast_S_S16x2048x3x2048 (constant S_ .f32 0x3F800000#32)) (addf (broadcastInDim S16x2048x3x2048 ![] bcast_S_S16x2048x3x2048 (constant S_ .f32 0x3F800000#32)) (Host.exp (Host.negf (shapeCast _ G shapeCasts_S16x2048x6144_S16x2048x3x2048))))

theorem gates_at (G : FVec Ideal S16x2048x6144 .f32) (b : Fin 16) (r : Fin 2048) (q : Fin 3) (n : Fin 2048) :
    gates G (ix4 b r q n) = Ideal.div 1 (1 + Ideal.exp (-G (ix3 b r ⟨(q : ℕ) * 2048 + (n : ℕ), by omega⟩))) := by
  unfold gates
  pointwise

/-- The reference's result. -/
theorem ref_eq (A B C : FVec Ideal S16x2048x1024 .bf16) (G : FVec Ideal S16x2048x6144 .f32) (W : FVec Ideal S3x1024x2048 .f32) :
    shapeCast _ (truncf .bf16 (addf (addf (mulf (shapeCast _ (extractStridedSlice S16x2048x1x2048 ![0, 0, 0, 0] (gates G) slices_S16x2048x3x2048_S16x2048x1x2048_0_0_0_0) shapeCasts_S16x2048x1x2048_S16x2048x2048) (Host.dotGeneral (F := Ideal) dot_S16x2048x1024_S1024x2048_S16x2048x2048_2_0_01_1_n_n none (extf .f32 A bitsLt_bf16_f32) (shapeCast _ (extractStridedSlice S1x1024x2048 ![0, 0, 0] W slices_S3x1024x2048_S1x1024x2048_0_0_0) shapeCasts_S1x1024x2048_S1024x2048))) (mulf (shapeCast _ (extractStridedSlice S16x2048x1x2048 ![0, 0, 1, 0] (gates G) slices_S16x2048x3x2048_S16x2048x1x2048_0_0_1_0) shapeCasts_S16x2048x1x2048_S16x2048x2048) (Host.dotGeneral dot_S16x2048x1024_S1024x2048_S16x2048x2048_2_0_01_1_n_n none (extf .f32 B bitsLt_bf16_f32) (shapeCast _ (extractStridedSlice S1x1024x2048 ![1, 0, 0] W slices_S3x1024x2048_S1x1024x2048_1_0_0) shapeCasts_S1x1024x2048_S1024x2048)))) (mulf (shapeCast _ (extractStridedSlice S16x2048x1x2048 ![0, 0, 2, 0] (gates G) slices_S16x2048x3x2048_S16x2048x1x2048_0_0_2_0) shapeCasts_S16x2048x1x2048_S16x2048x2048) (Host.dotGeneral dot_S16x2048x1024_S1024x2048_S16x2048x2048_2_0_01_1_n_n none (extf .f32 C bitsLt_bf16_f32) (shapeCast _ (extractStridedSlice S1x1024x2048 ![2, 0, 0] W slices_S3x1024x2048_S1x1024x2048_2_0_0) shapeCasts_S1x1024x2048_S1024x2048)))) bitsLt_bf16_f32) shapeCasts_S16x2048x2048_S32768x2048
    = arrOut A B C G W := by
  have g := gates_at G
  generalize gates G = T at g ⊢
  funext i
  idx_vars i
  have g0 := g ⟨(i0 : ℕ) / 2048, by omega⟩ ⟨(i0 : ℕ) % 2048, by omega⟩ 0 i1
  have g1 := g ⟨(i0 : ℕ) / 2048, by omega⟩ ⟨(i0 : ℕ) % 2048, by omega⟩ 1 i1
  have g2 := g ⟨(i0 : ℕ) / 2048, by omega⟩ ⟨(i0 : ℕ) % 2048, by omega⟩ 2 i1
  simp only [Fin.isValue, Fin.val_zero, Fin.val_one, Fin.val_two, zero_mul, one_mul, zero_add] at g0 g1 g2
  unfold arrOut rowsOut entry part flat flatGates
  pointwise
  rw [g0, g1, g2]

end

/-- The kernel and the reference end with equal results. -/
theorem algebraic : Cert.algebraic_MergeIdeal_MergeRefIdeal := by
  intro m ρ m' ρ' _ hagree
  refine ⟨fun c => arrOut (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)),
    (θ_run Cert.MergeIdeal.defs _ _).mono (fun _ h c => ⟨(h c).1.trans (final m c), (h c).2⟩) (Cert.MergeIdeal.Value.run_blocks (F := Ideal) m ρ), ?_⟩
  refine (θ_run Cert.MergeRefIdeal.defs _ _).mono (fun _ h c => ⟨(h c).1.trans ?_, (h c).2⟩) (Cert.MergeRefIdeal.Value.run (F := Ideal) m' ρ')
  obtain ⟨a0, a1, a2, a3, a4⟩ := hagree c
  show _ = arrOut _ _ _ _ _
  rw [← a0, ← a1, ← a2, ← a3, ← a4]
  exact ref_eq _ _ _ _ _

end Cert.Proof.MergeClaims

end
-- ==== Proof.OutClaims.lean ====
/- The claims about the out-projection with the gated residual. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.ProjRows
public import Idealize.ShloMosaic.Lib.Quiescent

@[expose] public section

set_option maxRecDepth 16384

noncomputable section

namespace Cert.Proof.OutClaims

open Idealize.ShloMosaic Idealize.ShloMosaic.TcCoe Idealize.SL.Sem
open Cert.Proof.ProjRows Cert.OutIdeal Cert.OutIdeal.Gen

/-- The stream plus the gate, the third of the modulation's six vectors, times the projected rows. -/
def arrOut (Y : FVec Ideal S16x2048x2048 .bf16) (W : FVec Ideal S2048x2048 .f32) (X : FVec Ideal S16x2048x2048 .f32) (G : FVec Ideal S16x12288 .f32) :
    FVec Ideal S16x2048x2048 .f32 := fun i =>
  X (ix3 (i 0) (i 1) (i 2)) + G (ix2 (i 0) ⟨4096 + (i 2 : ℕ), by have : (i 2 : ℕ) < 2048 := (i 2).2; omega⟩) * ∑ k : Fin 2048, Y (ix3 (i 0) (i 1) k) * W (ix2 k (i 2))

theorem arrOut_at (Y : FVec Ideal S16x2048x2048 .bf16) (W : FVec Ideal S2048x2048 .f32) (X : FVec Ideal S16x2048x2048 .f32) (G : FVec Ideal S16x12288 .f32)
    (i : S16x2048x2048.Idx) (b : Fin 16) (r d : Fin 2048) (h0 : (i 0 : ℕ) = b) (h1 : (i 1 : ℕ) = r) (h2 : (i 2 : ℕ) = d) :
    arrOut Y W X G i = X (ix3 b r d) + G (ix2 b ⟨4096 + (d : ℕ), by omega⟩) * ∑ k : Fin 2048, Y (ix3 b r k) * W (ix2 k d) := by
  obtain rfl : i 0 = b := Fin.ext h0
  obtain rfl : i 1 = r := Fin.ext h1
  obtain rfl : i 2 = d := Fin.ext h2
  rfl

/-- The body at an index. -/
theorem block_at (a : FVec Ideal S1x1024x2048 .bf16) (w : FVec Ideal S1x2048x1024 .bf16) (x : FVec Ideal S1x1024x1024 .f32) (g : FVec Ideal S1x1x1024 .f32)
    (r n : Fin 1024) : (k0_pay1 (F := Ideal) a w x g (ix3 0 r n) : EReal)
      = x (ix3 0 r n) + g (ix3 0 0 n) * ∑ k : Fin 2048, a (ix3 0 r k) * w (ix3 0 k n) := by
  unfold k0_pay1
  pointwise

variable (m : (ℓ : Loc nD τ sig) → Buf (Elt Ideal) ℓ)

/-- The index maps: batch element, columns, rows. -/
theorem idx : ∀ t : Fin cfg0.N, win0_0.index t = ![(t : ℕ) / 4, (t : ℕ) % 2, 0] ∧ win0_1.index t = ![0, 0, (t : ℕ) / 2 % 2]
    ∧ win0_2.index t = ![(t : ℕ) / 4, (t : ℕ) % 2, (t : ℕ) / 2 % 2] ∧ win0_3.index t = ![(t : ℕ) / 4, 0, (t : ℕ) / 2 % 2]
    ∧ win0_4.index t = ![(t : ℕ) / 4, (t : ℕ) % 2, (t : ℕ) / 2 % 2] :=
  (by decide +kernel : ∀ t : Fin grid0.N, _)

/-- The second window's array: the weights. -/
theorem entry_w (c : Dev nD) : V m c main_v3 = broadcastInDim S1x2048x2048 ![1, 2] bcast_S2048x2048_S1x2048x2048_1_2 (truncf (F := Ideal) .bf16 (m ((c : Thread nD τ).loc main_arg1) : FVec Ideal S2048x2048 .f32) bitsLt_bf16_f32) := by
  simp only [V, hostOps0, hostOps0_1, hostOps0_2]
  entry_read
  rfl

theorem weights_at (W : FVec Ideal S2048x2048 .f32) (k n : Fin 2048) :
    (broadcastInDim S1x2048x2048 ![1, 2] bcast_S2048x2048_S1x2048x2048_1_2 (truncf (F := Ideal) .bf16 W bitsLt_bf16_f32) (ix3 0 k n) : EReal) = W (ix2 k n) := by
  pointwise

/-- The third of the modulation's vectors. -/
def third (G : FVec Ideal S16x12288 .f32) : FVec Ideal S16x1x2048 .f32 :=
  extractStridedSlice S16x1x2048 ![0, 2, 0] (pad S16x8x2048 ![0, 0, 0] ![0, 2, 0] ![0, 0, 0] (shapeCast S16x6x2048 G shapeCasts_S16x12288_S16x6x2048) (sitofp .f32 (constantI S_ 32 0#32)) pads_S16x6x2048_S16x8x2048_000_020_000 h_S_) slices_S16x8x2048_S16x1x2048_0_2_0

/-- The fourth window's array. -/
theorem entry_g (c : Dev nD) : V m c main_v4 = third (m ((c : Thread nD τ).loc main_arg3) : FVec Ideal S16x12288 .f32) := by
  simp only [V, hostOps0, hostOps0_1, hostOps0_2]
  entry_read
  rfl

theorem third_at (G : FVec Ideal S16x12288 .f32) (b : Fin 16) (d : Fin 2048) : third G (ix3 b 0 d) = G (ix2 b ⟨4096 + (d : ℕ), by omega⟩) := by
  unfold third
  pointwise

section
variable (c : Dev nD) (t : Fin cfg0.N)

theorem lt64 : (t : ℕ) < 64 := t.2

/-- A block of rows, -/
theorem blk_y (r : Fin 1024) (k : Fin 2048) : (show FVec Ideal S1x1024x2048 .bf16 from iblk m c 0 t) (ix3 0 r k)
      = (m ((c : Thread nD τ).loc main_arg0) : FVec Ideal S16x2048x2048 .bf16) (ix3 ⟨(t : ℕ) / 4, by have := lt64 t; omega⟩ ⟨(t : ℕ) % 2 * 1024 + r, by omega⟩ k) := by
  blk_simp [iblk, idx t]
  rw [V_main_arg0]
  blk_point [idx t]

/-- of the weights' columns, -/
theorem blk_w (k : Fin 2048) (n : Fin 1024) : (show FVec Ideal S1x2048x1024 .bf16 from iblk m c 1 t) (ix3 0 k n)
      = (m ((c : Thread nD τ).loc main_arg1) : FVec Ideal S2048x2048 .f32) (ix2 k ⟨(t : ℕ) / 2 % 2 * 1024 + n, by omega⟩) := by
  refine Eq.trans ?_ (weights_at _ _ _)
  blk_simp [iblk, idx t]
  rw [entry_w]
  generalize broadcastInDim S1x2048x2048 _ _ _ = T
  blk_point [idx t]

/-- of the stream, -/
theorem blk_x (r n : Fin 1024) : (show FVec Ideal S1x1024x1024 .f32 from iblk m c 2 t) (ix3 0 r n)
      = (m ((c : Thread nD τ).loc main_arg2) : FVec Ideal S16x2048x2048 .f32) (ix3 ⟨(t : ℕ) / 4, by have := lt64 t; omega⟩ ⟨(t : ℕ) % 2 * 1024 + r, by omega⟩ ⟨(t : ℕ) / 2 % 2 * 1024 + n, by omega⟩) := by
  blk_simp [iblk, idx t]
  rw [V_main_arg2]
  blk_point [idx t]

/-- and of the gate. -/
theorem blk_g (n : Fin 1024) : (show FVec Ideal S1x1x1024 .f32 from iblk m c 3 t) (ix3 0 0 n)
      = (m ((c : Thread nD τ).loc main_arg3) : FVec Ideal S16x12288 .f32) (ix2 ⟨(t : ℕ) / 4, by have := lt64 t; omega⟩ ⟨4096 + ((t : ℕ) / 2 % 2 * 1024 + n), by omega⟩) := by
  refine Eq.trans ?_ (third_at _ _ ⟨(t : ℕ) / 2 % 2 * 1024 + n, by omega⟩)
  blk_simp [iblk, idx t]
  rw [entry_g]
  generalize third _ = T
  blk_point [idx t]

end

/-- What the run leaves in the result array. -/
theorem final (c : Dev nD) : (dats m 0 c).arrAt 4 cfg0.N = arrOut (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨r, n, rfl⟩ := idx_plane 1024 1024 y
  refine (block_at _ _ _ _ _ _).trans ?_
  refine (congrArg₂ (· + ·) (blk_x m c t r n) (congrArg₂ (· * ·) (blk_g m c t n) (Finset.sum_congr rfl fun k _ => congrArg₂ (· * ·) (blk_y m c t r k) (blk_w m c t k n)))).trans ?_
  refine (arrOut_at _ _ _ _ _ _ _ _ ?_ ?_ ?_).symm
  · blk_simp [idx t]
    exact Nat.add_zero _
  · blk_simp [idx t]
  · blk_simp [idx t]

/-- The reference's result. -/
theorem ref_eq (Y : FVec Ideal S16x2048x2048 .bf16) (W : FVec Ideal S2048x2048 .f32) (X : FVec Ideal S16x2048x2048 .f32) (G : FVec Ideal S16x12288 .f32) :
    addf X (mulf (broadcastInDim Cert.OutRefIdeal.S16x2048x2048 ![0, 1, 2] Cert.OutRefIdeal.Facts₀.bcast_S16x1x2048_S16x2048x2048_0_1_2 (extractStridedSlice Cert.OutRefIdeal.S16x1x2048 ![0, 0, 4096] (broadcastInDim Cert.OutRefIdeal.S16x1x12288 ![0, 2] Cert.OutRefIdeal.Facts₀.bcast_S16x12288_S16x1x12288_0_2 G) Cert.OutRefIdeal.Facts₀.slices_S16x1x12288_S16x1x2048_0_0_4096))
      (Host.dotGeneral (F := Ideal) Cert.OutRefIdeal.dot_S16x2048x2048_S2048x2048_S16x2048x2048_2_0_01_1_n_n none
        (extf .f32 Y Cert.OutRefIdeal.Facts₀.bitsLt_bf16_f32) W))
    = arrOut Y W X G := by
  funext i
  idx_vars i
  unfold arrOut
  pointwise

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)
theorem preserves : Cert.preserves_Out_OutIdeal := trivial

/-- The kernel and the reference end with equal results. -/
theorem algebraic : Cert.algebraic_OutIdeal_OutRefIdeal := by
  intro m ρ m' ρ' _ hagree
  refine ⟨fun c => arrOut (m ((c.tc : Thread nD τ).loc main_arg0)) (m ((c.tc : Thread nD τ).loc main_arg1)) (m ((c.tc : Thread nD τ).loc main_arg2)) (m ((c.tc : Thread nD τ).loc main_arg3)),
    (θ_run defs _ _).mono (fun _ h c => ⟨(h c).1.trans (final m c), (h c).2⟩) (Cert.OutIdeal.Value.run_blocks (F := Ideal) m ρ), ?_⟩
  refine (θ_run Cert.OutRefIdeal.defs _ _).mono (fun _ h c => ⟨(h c).1.trans ?_, (h c).2⟩) (Cert.OutRefIdeal.Value.run (F := Ideal) m' ρ')
  obtain ⟨a0, a1, a2, a3⟩ := hagree c
  show _ = arrOut _ _ _ _
  rw [← a0, ← a1, ← a2, ← a3]
  exact ref_eq _ _ _ _

end Cert.Proof.OutClaims

end
-- ==== Proof.NormClaims.lean ====
/- The claims about the last norm. -/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.ProjRows
public import Idealize.ShloMosaic.Lib.Quiescent

@[expose] public section

set_option maxRecDepth 16384

noncomputable section

namespace Cert.Proof.NormClaims

open Idealize.ShloMosaic Idealize.ShloMosaic.TcCoe Idealize.SL.Sem
open Cert.Proof.ProjRows Cert.NormIdeal Cert.NormIdeal.Gen

/-- A row divided by the root of its mean square, at lane `d`, times the gain. -/
def normed (x : Fin 2048 → EReal) (g : EReal) (d : Fin 2048) : EReal :=
  x d * Ideal.rsqrt (Ideal.div (∑ k : Fin 2048, x k * x k) (Ideal.ofBits .f32 0x45000000#32) + Ideal.ofBits .f32 0x358637BD#32) * g

/-- The whole array. -/
def arrOut (X : FVec Ideal S16x2048x2048 .f32) (g : FVec Ideal S2048 .f32) : FVec Ideal S16x2048x2048 .f32 := fun i =>
  normed (fun k => X (ix3 (i 0) (i 1) k)) (g (ix1 (i 2))) (i 2)

theorem arrOut_at (X : FVec Ideal S16x2048x2048 .f32) (g : FVec Ideal S2048 .f32) (i : S16x2048x2048.Idx) (b : Fin 16) (r d : Fin 2048)
    (h0 : (i 0 : ℕ) = b) (h1 : (i 1 : ℕ) = r) (h2 : (i 2 : ℕ) = d) : arrOut X g i = normed (fun k => X (ix3 b r k)) (g (ix1 d)) d := by
  obtain rfl : i 0 = b := Fin.ext h0
  obtain rfl : i 1 = r := Fin.ext h1
  obtain rfl : i 2 = d := Fin.ext h2
  rfl

/-- The body at an index. -/
theorem block_at (x : FVec Ideal S1x256x2048 .f32) (g : FVec Ideal S1x2048 .f32) (r : Fin 256) (d : Fin 2048) :
    (k0_pay1 (F := Ideal) x g (ix3 0 r d) : EReal) = normed (fun k => x (ix3 0 r k)) (g (ix2 0 d)) d := by
  unfold k0_pay1 normed
  pointwise

variable (m : (ℓ : Loc nD τ sig) → Buf (Elt Ideal) ℓ)

/-- The index maps: batch element and rows. -/
theorem idx : ∀ t : Fin cfg0.N, win0_0.index t = ![(t : ℕ) / 8, (t : ℕ) % 8, 0] ∧ win0_1.index t = ![0, 0] ∧ win0_2.index t = ![(t : ℕ) / 8, (t : ℕ) % 8, 0] :=
  (by decide +kernel : ∀ t : Fin grid0.N, _)

/-- The second window's array: the gain as a row. -/
theorem entry_g (c : Dev nD) : V m c main_v0 = broadcastInDim S1x2048 ![1] bcast_S2048_S1x2048_1 (m ((c : Thread nD τ).loc main_arg1) : FVec Ideal S2048 .f32) := by
  simp only [V, hostOps0]
  entry_read
  rfl

theorem gain_at (g : FVec Ideal S2048 .f32) (d : Fin 2048) : broadcastInDim S1x2048 ![1] bcast_S2048_S1x2048_1 g (ix2 0 d) = g (ix1 d) := by
  pointwise

/-- A block of rows. -/
theorem blk_x (c : Dev nD) (t : Fin cfg0.N) (r : Fin 256) (k : Fin 2048) :
    (show FVec Ideal S1x256x2048 .f32 from iblk m c 0 t) (ix3 0 r k)
      = (m ((c : Thread nD τ).loc main_arg0) : FVec Ideal S16x2048x2048 .f32) (ix3 ⟨(t : ℕ) / 8, by have : (t : ℕ) < 128 := t.2; omega⟩ ⟨(t : ℕ) % 8 * 256 + r, by omega⟩ k) := by
  blk_simp [iblk, idx t]
  rw [V_main_arg0]
  blk_point [idx t]

/-- The gain's window. -/
theorem blk_g (c : Dev nD) (t : Fin cfg0.N) (d : Fin 2048) :
    (show FVec Ideal S1x2048 .f32 from iblk m c 1 t) (ix2 0 d) = (m ((c : Thread nD τ).loc main_arg1) : FVec Ideal S2048 .f32) (ix1 d) := by
  refine Eq.trans ?_ (gain_at _ _)
  blk_simp [iblk, idx t]
  rw [entry_g]
  generalize broadcastInDim S1x2048 _ _ _ = T
  blk_point [idx t]

/-- What the run leaves in the result array. -/
theorem final (c : Dev nD) : (dats m 0 c).arrAt 2 cfg0.N
    = arrOut (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, d, rfl⟩ := idx_plane 256 2048 y
  refine (block_at _ _ _ _).trans ?_
  refine (congrArg₂ (fun x g => normed x g d) (funext fun k => blk_x m c t r k) (blk_g m c t d)).trans ?_
  refine (arrOut_at _ _ _ _ _ _ ?_ ?_ ?_).symm
  · blk_simp [idx t]
    exact Nat.add_zero _
  · blk_simp [idx t]
  · blk_simp [idx t]

/-- The reference's result. -/
theorem ref_eq (X : FVec Ideal S16x2048x2048 .f32) (g : FVec Ideal S2048 .f32) :
    mulf (mulf X (broadcastInDim Cert.NormRefIdeal.S16x2048x2048 ![0, 1, 2] Cert.NormRefIdeal.Facts₀.bcast_S16x2048x1_S16x2048x2048_0_1_2 (Host.rsqrt (addf (Host.divf (broadcastInDim Cert.NormRefIdeal.S16x2048x1 ![0, 1] Cert.NormRefIdeal.Facts₀.bcast_S16x2048_S16x2048x1_0_1 (Host.reduceAdd (mulf X X) (constant Cert.NormRefIdeal.S_ .f32 0x00000000#32) Cert.NormRefIdeal.Facts₀.reducesTo_S16x2048x2048_S16x2048_d2 Cert.NormRefIdeal.Facts₀.h_S_)) (broadcastInDim Cert.NormRefIdeal.S16x2048x1 ![] Cert.NormRefIdeal.Facts₀.bcast_S_S16x2048x1 (constant Cert.NormRefIdeal.S_ .f32 0x45000000#32))) (broadcastInDim Cert.NormRefIdeal.S16x2048x1 ![] Cert.NormRefIdeal.Facts₀.bcast_S_S16x2048x1 (constant Cert.NormRefIdeal.S_ .f32 0x358637BD#32))))))
      (broadcastInDim Cert.NormRefIdeal.S16x2048x2048 ![0, 1, 2] Cert.NormRefIdeal.Facts₀.bcast_S1x1x2048_S16x2048x2048_0_1_2 (broadcastInDim Cert.NormRefIdeal.S1x1x2048 ![2] Cert.NormRefIdeal.Facts₀.bcast_S2048_S1x1x2048_2 g))
    = arrOut X g := by
  funext i
  idx_vars i
  unfold arrOut normed
  pointwise

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)
theorem preserves : Cert.preserves_Norm_NormIdeal := trivial

/-- The kernel and the reference end with equal results. -/
theorem algebraic : Cert.algebraic_NormIdeal_NormRefIdeal := by
  intro m ρ m' ρ' _ hagree
  refine ⟨fun c => arrOut (m ((c.tc : Thread nD τ).loc main_arg0)) (m ((c.tc : Thread nD τ).loc main_arg1)),
    (θ_run defs _ _).mono (fun _ h c => ⟨(h c).1.trans (final m c), (h c).2⟩) (Cert.NormIdeal.Value.run_blocks (F := Ideal) m ρ), ?_⟩
  refine (θ_run Cert.NormRefIdeal.defs _ _).mono (fun _ h c => ⟨(h c).1.trans ?_, (h c).2⟩) (Cert.NormRefIdeal.Value.run (F := Ideal) m' ρ')
  obtain ⟨a0, a1⟩ := hagree c
  show _ = arrOut _ _
  rw [← a0, ← a1]
  exact ref_eq _ _

end Cert.Proof.NormClaims

end
-- ==== Proof.NormmodClaims.lean ====
/- The claims about the modulated norm before the mixers. -/
module

public import proofs.«01_k».proof.Defs
public import proofs.«01_k».proof.Proof.Gen.Normmod.Frame
public import proofs.«01_k».proof.Proof.Gen.NormmodIdeal.Value
public import proofs.«01_k».proof.Proof.Gen.NormmodRefIdeal.Run
public import proofs.«01_k».proof.Proof.ProjRows
public import Idealize.ShloMosaic.Lib.Quiescent

@[expose] public section

set_option maxRecDepth 16384

noncomputable section

namespace Cert.Proof.NormmodClaims

open Idealize.ShloMosaic Idealize.ShloMosaic.TcCoe Idealize.SL.Sem
open Cert.Proof.ProjRows

section
open Cert.NormmodIdeal Cert.NormmodIdeal.Gen

/-- A row divided by the root of its mean square, at lane `d`, times the gain, times one plus the scale, plus the shift. -/
def normed (x : Fin 2048 → EReal) (g sc sh : EReal) (d : Fin 2048) : EReal :=
  x d * Ideal.rsqrt (Ideal.div (∑ k : Fin 2048, x k * x k) (Ideal.ofBits .f32 0x45000000#32) + Ideal.ofBits .f32 0x358637BD#32) * g * (1 + sc) + sh

/-- The whole array: the shift is the first of the modulation's six vectors, the scale the second. -/
def arrOut (X : FVec Ideal S16x2048x2048 .f32) (g : FVec Ideal S2048 .f32) (M : FVec Ideal S16x12288 .f32) : FVec Ideal S16x2048x2048 .bf16 := fun i =>
  normed (fun k => X (ix3 (i 0) (i 1) k)) (g (ix1 (i 2))) (M (ix2 (i 0) ⟨2048 + (i 2 : ℕ), by have : (i 2 : ℕ) < 2048 := (i 2).2; omega⟩))
    (M (ix2 (i 0) ⟨(i 2 : ℕ), by have : (i 2 : ℕ) < 2048 := (i 2).2; omega⟩)) (i 2)

theorem arrOut_at (X : FVec Ideal S16x2048x2048 .f32) (g : FVec Ideal S2048 .f32) (M : FVec Ideal S16x12288 .f32) (i : S16x2048x2048.Idx) (b : Fin 16) (r d : Fin 2048)
    (h0 : (i 0 : ℕ) = b) (h1 : (i 1 : ℕ) = r) (h2 : (i 2 : ℕ) = d) :
    arrOut X g M i = normed (fun k => X (ix3 b r k)) (g (ix1 d)) (M (ix2 b ⟨2048 + (d : ℕ), by omega⟩)) (M (ix2 b ⟨(d : ℕ), by omega⟩)) d := by
  obtain rfl : i 0 = b := Fin.ext h0
  obtain rfl : i 1 = r := Fin.ext h1
  obtain rfl : i 2 = d := Fin.ext h2
  rfl

/-- The body at an index. -/
theorem block_at (x : FVec Ideal S1x256x2048 .f32) (g : FVec Ideal S1x2048 .f32) (v : FVec Ideal S1x8x2048 .f32) (r : Fin 256) (d : Fin 2048) :
    (k0_pay1 (F := Ideal) x g v (ix3 0 r d) : EReal) = normed (fun k => x (ix3 0 r k)) (g (ix2 0 d)) (v (ix3 0 1 d)) (v (ix3 0 0 d)) d := by
  unfold k0_pay1 normed
  pointwise

variable (m : (ℓ : Loc nD τ sig) → Buf (Elt Ideal) ℓ)

/-- The index maps: batch element and rows. -/
theorem idx : ∀ t : Fin cfg0.N, win0_0.index t = ![(t : ℕ) / 8, (t : ℕ) % 8, 0] ∧ win0_1.index t = ![0, 0] ∧ win0_2.index t = ![(t : ℕ) / 8, 0, 0]
    ∧ win0_3.index t = ![(t : ℕ) / 8, (t : ℕ) % 8, 0] :=
  (by decide +kernel : ∀ t : Fin grid0.N, _)

/-- The second window's array: the gain as a row. -/
theorem entry_g (c : Dev nD) : V m c main_v0 = broadcastInDim S1x2048 ![1] bcast_S2048_S1x2048_1 (m ((c : Thread nD τ).loc main_arg1) : FVec Ideal S2048 .f32) := by
  simp only [V, hostOps0, hostOps0_1]
  entry_read
  rfl

theorem gain_at (g : FVec Ideal S2048 .f32) (d : Fin 2048) : broadcastInDim S1x2048 ![1] bcast_S2048_S1x2048_1 g (ix2 0 d) = g (ix1 d) := by
  pointwise

/-- The modulation's six vectors as rows, and two rows of zeros. -/
def rows (M : FVec Ideal S16x12288 .f32) : FVec Ideal S16x8x2048 .f32 :=
  pad S16x8x2048 ![0, 0, 0] ![0, 2, 0] ![0, 0, 0] (shapeCast S16x6x2048 M shapeCasts_S16x12288_S16x6x2048) (sitofp .f32 (constantI S_ 32 0#32)) pads_S16x6x2048_S16x8x2048_000_020_000 h_S_

/-- The third window's array. -/
theorem entry_m (c : Dev nD) : V m c main_v2 = rows (m ((c : Thread nD τ).loc main_arg2) : FVec Ideal S16x12288 .f32) := by
  simp only [V, hostOps0, hostOps0_1]
  entry_read
  rfl

theorem shift_at (M : FVec Ideal S16x12288 .f32) (b : Fin 16) (d : Fin 2048) : rows M (ix3 b 0 d) = M (ix2 b ⟨(d : ℕ), by omega⟩) := by
  unfold rows
  pointwise

theorem scale_at (M : FVec Ideal S16x12288 .f32) (b : Fin 16) (d : Fin 2048) : rows M (ix3 b 1 d) = M (ix2 b ⟨2048 + (d : ℕ), by omega⟩) := by
  unfold rows
  pointwise

/-- A block of rows. -/
theorem blk_x (c : Dev nD) (t : Fin cfg0.N) (r : Fin 256) (k : Fin 2048) :
    (show FVec Ideal S1x256x2048 .f32 from iblk m c 0 t) (ix3 0 r k)
      = (m ((c : Thread nD τ).loc main_arg0) : FVec Ideal S16x2048x2048 .f32) (ix3 ⟨(t : ℕ) / 8, by have : (t : ℕ) < 128 := t.2; omega⟩ ⟨(t : ℕ) % 8 * 256 + r, by omega⟩ k) := by
  blk_simp [iblk, idx t]
  rw [V_main_arg0]
  blk_point [idx t]

/-- The gain's window. -/
theorem blk_g (c : Dev nD) (t : Fin cfg0.N) (d : Fin 2048) :
    (show FVec Ideal S1x2048 .f32 from iblk m c 1 t) (ix2 0 d) = (m ((c : Thread nD τ).loc main_arg1) : FVec Ideal S2048 .f32) (ix1 d) := by
  refine Eq.trans ?_ (gain_at _ _)
  blk_simp [iblk, idx t]
  rw [entry_g]
  generalize broadcastInDim S1x2048 _ _ _ = T
  blk_point [idx t]

/-- The modulation's window. -/
theorem blk_m (c : Dev nD) (t : Fin cfg0.N) (q : Fin 8) (d : Fin 2048) :
    (show FVec Ideal S1x8x2048 .f32 from iblk m c 2 t) (ix3 0 q d)
      = rows (m ((c : Thread nD τ).loc main_arg2)) (ix3 ⟨(t : ℕ) / 8, by have : (t : ℕ) < 128 := t.2; omega⟩ q d) := by
  blk_simp [iblk, idx t]
  rw [entry_m]
  generalize rows _ = T
  blk_point [idx t]

/-- Equal ingredients give equal entries. -/
theorem normed_congr {x x' : Fin 2048 → EReal} {g g' sc sc' sh sh' : EReal} (d : Fin 2048) (hx : ∀ k, x k = x' k) (hg : g = g') (h1 : sc = sc') (h2 : sh = sh') :
    normed x g sc sh d = normed x' g' sc' sh' d := by
  obtain rfl : x = x' := funext hx
  rw [hg, h1, h2]

/-- What the run leaves in the result array. -/
theorem final (c : Dev nD) : (dats m 0 c).arrAt 3 cfg0.N
    = arrOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, d, rfl⟩ := idx_plane 256 2048 y
  refine (block_at _ _ _ _ _).trans ?_
  refine (normed_congr d (blk_x m c t r) (blk_g m c t d) ((blk_m m c t 1 d).trans (scale_at _ _ _)) ((blk_m m c t 0 d).trans (shift_at _ _ _))).trans ?_
  refine (arrOut_at _ _ _ _ _ _ _ ?_ ?_ ?_).symm
  · blk_simp [idx t]
    exact Nat.add_zero _
  · blk_simp [idx t]
  · blk_simp [idx t]

end

section
open Cert.NormmodRefIdeal Cert.NormmodRefIdeal.Facts₀

/-- The reference's result. -/
theorem ref_eq (X : FVec Ideal S16x2048x2048 .f32) (g : FVec Ideal S2048 .f32) (M : FVec Ideal S16x12288 .f32) :
    truncf .bf16 (addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))) (broadcastInDim S16x2048x2048 ![0, 1, 2] bcast_S16x1x2048_S16x2048x2048_0_1_2 (addf (broadcastInDim S16x1x2048 ![] bcast_S_S16x1x2048 (constant S_ .f32 0x3F800000#32)) (extractStridedSlice S16x1x2048 ![0, 0, 2048] (broadcastInDim S16x1x12288 ![0, 2] bcast_S16x12288_S16x1x12288_0_2 M) slices_S16x1x12288_S16x1x2048_0_0_2048)))) (broadcastInDim S16x2048x2048 ![0, 1, 2] bcast_S16x1x2048_S16x2048x2048_0_1_2 (extractStridedSlice S16x1x2048 ![0, 0, 0] (broadcastInDim S16x1x12288 ![0, 2] bcast_S16x12288_S16x1x12288_0_2 M) slices_S16x1x12288_S16x1x2048_0_0_0))) bitsLt_bf16_f32
    = arrOut X g M := by
  funext i
  idx_vars i
  unfold arrOut normed
  pointwise

end

theorem frame_p : Cert.quiescent_Normmod := fun m ρ _ => Cert.Normmod.Gen.frame m ρ
theorem frame_pi : Cert.quiescent_NormmodIdeal := fun m ρ _ => Cert.NormmodIdeal.Gen.frame m ρ
theorem frame_ri : Cert.quiescent_NormmodRefIdeal := fun m ρ _ =>
  (θ_run Cert.NormmodRefIdeal.defs _ _).mono (fun r h => ⟨fun c => (h c).2, Idealize.ShloMosaic.sem_eq_zero_of_no_sems (by decide) r.2⟩)
    (Cert.NormmodRefIdeal.Value.run (F := Ideal) m ρ)
theorem preserves : Cert.preserves_Normmod_NormmodIdeal := trivial

/-- The kernel and the reference end with equal results. -/
theorem algebraic : Cert.algebraic_NormmodIdeal_NormmodRefIdeal := by
  intro m ρ m' ρ' _ hagree
  refine ⟨fun c => arrOut (m ((c.tc : Thread Cert.NormmodIdeal.nD Cert.NormmodIdeal.τ).loc Cert.NormmodIdeal.main_arg0)) (m ((c.tc : Thread Cert.NormmodIdeal.nD Cert.NormmodIdeal.τ).loc Cert.NormmodIdeal.main_arg1)) (m ((c.tc : Thread Cert.NormmodIdeal.nD Cert.NormmodIdeal.τ).loc Cert.NormmodIdeal.main_arg2)),
    (θ_run Cert.NormmodIdeal.defs _ _).mono (fun _ h c => ⟨(h c).1.trans (final m c), (h c).2⟩) (Cert.NormmodIdeal.Value.run_blocks (F := Ideal) m ρ), ?_⟩
  refine (θ_run Cert.NormmodRefIdeal.defs _ _).mono (fun _ h c => ⟨(h c).1.trans ?_, (h c).2⟩) (Cert.NormmodRefIdeal.Value.run (F := Ideal) m' ρ')
  obtain ⟨a0, a1, a2⟩ := hagree c
  show _ = arrOut _ _ _
  rw [← a0, ← a1, ← a2]
  exact ref_eq _ _ _

end Cert.Proof.NormmodClaims

end
-- ==== Proof.AdaClaims.lean ====
/- The claims about the modulation vectors. -/
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.Gate
public import proofs.«01_k».proof.Proof.ProjRows
public import Idealize.ShloMosaic.Lib.Quiescent

@[expose] public section

set_option maxRecDepth 16384

noncomputable section

namespace Cert.Proof.AdaClaims

open Idealize.ShloMosaic Idealize.ShloMosaic.TcCoe Idealize.SL.Sem
open Cert.Proof.ProjRows Cert.Proof.Gate

section
open Cert.AdaIdeal Cert.AdaIdeal.Gen

/-- A number times its logistic function. -/
def act (a : EReal) : EReal := a * Ideal.div 1 (1 + Ideal.exp (-a))

/-- One entry: a row, activated, times a column, plus the bias. -/
def entry (x w : Fin 2048 → EReal) (b : EReal) : EReal := (∑ k : Fin 2048, act (x k) * w k) + b

/-- Equal ingredients give equal entries. -/
theorem entry_congr {x x' w w' : Fin 2048 → EReal} {b b' : EReal} (hx : ∀ k, x k = x' k) (hw : ∀ k, w k = w' k) (hb : b = b') : entry x w b = entry x' w' b' := by
  obtain rfl : x = x' := funext hx
  obtain rfl : w = w' := funext hw
  rw [hb]

/-- Row `r` of the conditioning: the sixteen batch elements' vectors, then the context's, eight times. -/
def cond (C : FVec Ideal S16x2048 .f32) (X : FVec Ideal S2048 .f32) (r : Fin 24) (k : Fin 2048) : EReal :=
  if h : (r : ℕ) < 16 then C (ix2 ⟨(r : ℕ), h⟩ k) else X (ix1 k)

/-- The whole array, with the first layer's weights and bias. -/
def arrOut (C : FVec Ideal S16x2048 .f32) (X : FVec Ideal S2048 .f32) (W : FVec Ideal S4x2048x12288 .f32) (B : FVec Ideal S4x12288 .f32) : FVec Ideal S1x24x12288 .f32 := fun i =>
  entry (cond C X (i 1)) (fun k => W (ix3 0 k (i 2))) (B (ix2 0 (i 2)))

theorem arrOut_at (C : FVec Ideal S16x2048 .f32) (X : FVec Ideal S2048 .f32) (W : FVec Ideal S4x2048x12288 .f32) (B : FVec Ideal S4x12288 .f32) (i : S1x24x12288.Idx) (r : Fin 24) (n : Fin 12288)
    (h1 : (i 1 : ℕ) = r) (h2 : (i 2 : ℕ) = n) : arrOut C X W B i = entry (cond C X r) (fun k => W (ix3 0 k n)) (B (ix2 0 n)) := by
  obtain rfl : i 1 = r := Fin.ext h1
  obtain rfl : i 2 = n := Fin.ext h2
  rfl

/-- The body at an index. -/
theorem block_at (x : FVec Ideal S1x24x2048 .f32) (w : FVec Ideal S1x2048x1024 .f32) (b : FVec Ideal S1x1x1024 .f32) (r : Fin 24) (n : Fin 1024) :
    (k0_pay1 (F := Ideal) x w b (ix3 0 r n) : EReal) = entry (fun k => x (ix3 0 r k)) (fun k => w (ix3 0 k n)) (b (ix3 0 0 n)) := by
  simp only [entry, act, ← gate_eq]
  unfold k0_pay1
  pointwise

variable (m : (ℓ : Loc nD τ sig) → Buf (Elt Ideal) ℓ)

/-- The index maps: columns. -/
theorem idx : ∀ t : Fin cfg0.N, win0_0.index t = ![0, 0, 0] ∧ win0_1.index t = ![0, 0, (t : ℕ)] ∧ win0_2.index t = ![0, 0, (t : ℕ)] ∧ win0_3.index t = ![0, 0, (t : ℕ)] :=
  (by decide +kernel : ∀ t : Fin grid0.N, _)

/-- The first window's array: the conditioning's rows. -/
def rows (C : FVec Ideal S16x2048 .f32) (X : FVec Ideal S2048 .f32) : FVec Ideal S1x24x2048 .f32 :=
  broadcastInDim S1x24x2048 ![1, 2] bcast_S24x2048_S1x24x2048_1_2 (concatenate S24x2048 0 [⟨S16x2048, C⟩, ⟨S8x2048, broadcastInDim S8x2048 ![0, 1] bcast_S1x2048_S8x2048_0_1 (broadcastInDim S1x2048 ![1] bcast_S2048_S1x2048_1 X)⟩] concatenates_S16x2048_S8x2048_S24x2048_d0)

theorem entry_x (c : Dev nD) : V m c main_v3 = rows (m ((c : Thread nD τ).loc main_arg0)) (m ((c : Thread nD τ).loc main_arg1)) := by
  simp only [V, hostOps0]
  entry_read
  rfl

theorem rows_at (C : FVec Ideal S16x2048 .f32) (X : FVec Ideal S2048 .f32) (r : Fin 24) (k : Fin 2048) : rows C X (ix3 0 r k) = cond C X r k := by
  unfold rows cond
  pointwise

/-- The third window's array: the first layer's bias. -/
def bias (B : FVec Ideal S4x12288 .f32) : FVec Ideal S1x1x12288 .f32 :=
  broadcastInDim S1x1x12288 ![2] bcast_S12288_S1x1x12288_2 (shapeCast S12288 (extractStridedSlice S1x12288 ![0, 0] B slices_S4x12288_S1x12288_0_0) shapeCasts_S1x12288_S12288)

theorem entry_b (c : Dev nD) : V m c main_v6 = bias (m ((c : Thread nD τ).loc main_arg3)) := by
  simp only [V, hostOps0]
  entry_read
  rfl

theorem bias_at (B : FVec Ideal S4x12288 .f32) (n : Fin 12288) : bias B (ix3 0 0 n) = B (ix2 0 n) := by
  unfold bias
  pointwise

section
variable (c : Dev nD) (t : Fin cfg0.N)

/-- The column that column `n` of block `t` is. -/
def col (n : Fin 1024) : Fin 12288 := ⟨(t : ℕ) * 1024 + n, by have : (t : ℕ) < 12 := t.2; omega⟩

/-- The conditioning's window, -/
theorem blk_x (r : Fin 24) (k : Fin 2048) : (show FVec Ideal S1x24x2048 .f32 from iblk m c 0 t) (ix3 0 r k)
      = cond (m ((c : Thread nD τ).loc main_arg0)) (m ((c : Thread nD τ).loc main_arg1)) r k := by
  refine Eq.trans ?_ (rows_at _ _ _ _)
  blk_simp [iblk, idx t]
  rw [entry_x]
  generalize rows _ _ = T
  blk_point [idx t]

/-- a block of the weights' columns, -/
theorem blk_w (k : Fin 2048) (n : Fin 1024) : (show FVec Ideal S1x2048x1024 .f32 from iblk m c 1 t) (ix3 0 k n)
      = (m ((c : Thread nD τ).loc main_arg2) : FVec Ideal S4x2048x12288 .f32) (ix3 0 k (col t n)) := by
  unfold col
  blk_simp [iblk, idx t]
  rw [V_main_arg2]
  blk_point [idx t]

/-- and of the bias. -/
theorem blk_b (n : Fin 1024) : (show FVec Ideal S1x1x1024 .f32 from iblk m c 2 t) (ix3 0 0 n)
      = (m ((c : Thread nD τ).loc main_arg3) : FVec Ideal S4x12288 .f32) (ix2 0 (col t n)) := by
  refine Eq.trans ?_ (bias_at _ _)
  unfold col
  blk_simp [iblk, idx t]
  rw [entry_b]
  generalize bias _ = T
  blk_point [idx t]

end

/-- What the run leaves in the result array. -/
theorem final (c : Dev nD) : (dats m 0 c).arrAt 3 cfg0.N = arrOut (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t _ y => ?_
  blk_simp
  rw [after0_3]
  frame_out
  obtain ⟨r, n, rfl⟩ := idx_plane 24 1024 y
  refine (block_at _ _ _ _ _).trans ?_
  refine (entry_congr (blk_x m c t r) (fun k => blk_w m c t k n) (blk_b m c t n)).trans ?_
  refine (arrOut_at _ _ _ _ _ r (col t n) ?_ ?_).symm
  · blk_simp [idx t]
  · unfold col
    blk_simp [idx t]

end

section
open Cert.AdaRefIdeal Cert.AdaRefIdeal.Facts₀

/-- The reference's result. -/
theorem ref_eq (C : FVec Ideal S16x2048 .f32) (X : FVec Ideal S2048 .f32) (W : FVec Ideal S4x2048x12288 .f32) (B : FVec Ideal S4x12288 .f32) :
    broadcastInDim S1x24x12288 ![1, 2] bcast_S24x12288_S1x24x12288_1_2 (concatenate S24x12288 0 [⟨S16x12288, (addf (Host.dotGeneral (F := Ideal) dot_S16x2048_S2048x12288_S16x12288_1_0_0_1_n_n none (mulf C (Host.divf (broadcastInDim S16x2048 ![] bcast_S_S16x2048 (constant S_ .f32 0x3F800000#32)) (addf (broadcastInDim S16x2048 ![] bcast_S_S16x2048 (constant S_ .f32 0x3F800000#32)) (Host.exp (Host.negf C))))) (shapeCast _ (extractStridedSlice S1x2048x12288 ![0, 0, 0] W slices_S4x2048x12288_S1x2048x12288_0_0_0) shapeCasts_S1x2048x12288_S2048x12288)) (broadcastInDim S16x12288 ![0, 1] bcast_S1x12288_S16x12288_0_1 (broadcastInDim S1x12288 ![1] bcast_S12288_S1x12288_1 (shapeCast _ (extractStridedSlice S1x12288 ![0, 0] B slices_S4x12288_S1x12288_0_0) shapeCasts_S1x12288_S12288))))⟩, ⟨S8x12288, (broadcastInDim S8x12288 ![0, 1] bcast_S1x12288_S8x12288_0_1 (addf (Host.dotGeneral (F := Ideal) dot_S1x2048_S2048x12288_S1x12288_1_0_0_1_n_n none (broadcastInDim S1x2048 ![1] bcast_S2048_S1x2048_1 (mulf X (Host.divf (broadcastInDim S2048 ![] bcast_S_S2048 (constant S_ .f32 0x3F800000#32)) (addf (broadcastInDim S2048 ![] bcast_S_S2048 (constant S_ .f32 0x3F800000#32)) (Host.exp (Host.negf X)))))) (shapeCast _ (extractStridedSlice S1x2048x12288 ![0, 0, 0] W slices_S4x2048x12288_S1x2048x12288_0_0_0) shapeCasts_S1x2048x12288_S2048x12288)) (broadcastInDim S1x12288 ![1] bcast_S12288_S1x12288_1 (shapeCast _ (extractStridedSlice S1x12288 ![0, 0] B slices_S4x12288_S1x12288_0_0) shapeCasts_S1x12288_S12288))))⟩] concatenates_S16x12288_S8x12288_S24x12288_d0)
    = arrOut C X W B := by
  funext i
  idx_vars i
  unfold arrOut entry cond act
  pointwise
  by_cases h : (i1 : ℕ) < 16 <;> simp only [h, ↓reduceDIte]

end

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run (F := Ideal) m ρ)
theorem preserves : Cert.preserves_Ada_AdaIdeal := trivial

/-- The kernel and the reference end with equal results. -/
theorem algebraic : Cert.algebraic_AdaIdeal_AdaRefIdeal := by
  intro m ρ m' ρ' _ hagree
  refine ⟨fun c => arrOut (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)),
    (θ_run Cert.AdaIdeal.defs _ _).mono (fun _ h c => ⟨(h c).1.trans (final m c), (h c).2⟩) (Cert.AdaIdeal.Value.run_blocks (F := Ideal) m ρ), ?_⟩
  refine (θ_run Cert.AdaRefIdeal.defs _ _).mono (fun _ h c => ⟨(h c).1.trans ?_, (h c).2⟩) (Cert.AdaRefIdeal.Value.run (F := Ideal) m' ρ')
  obtain ⟨a0, a1, a2, a3⟩ := hagree c
  show _ = arrOut _ _ _ _
  rw [← a0, ← a1, ← a2, ← a3]
  exact ref_eq _ _ _ _

end Cert.Proof.AdaClaims

end
-- ==== Proof.GdnPostClaims.lean ====
/- The claims about the delta rule's gated norm. -/
module

public import proofs.«01_k».proof.Defs
public import proofs.«01_k».proof.Proof.Gen.GdnPost.Frame
public import proofs.«01_k».proof.Proof.Gen.GdnPostIdeal.Value
public import proofs.«01_k».proof.Proof.Gen.GdnPostRefIdeal.Run
public import proofs.«01_k».proof.Proof.Gate
public import proofs.«01_k».proof.Proof.ProjRows
public import Idealize.ShloMosaic.Lib.Quiescent

@[expose] public section

set_option maxRecDepth 16384

noncomputable section

namespace Cert.Proof.GdnPostClaims

open Idealize.ShloMosaic Idealize.ShloMosaic.TcCoe Idealize.SL.Sem
open Cert.Proof.ProjRows Cert.Proof.Gate

section
open Cert.GdnPostIdeal Cert.GdnPostIdeal.Gen

/-- A number times its logistic function. -/
def act (a : EReal) : EReal := a * Ideal.div 1 (1 + Ideal.exp (-a))

/-- A head's lanes divided by the root of their mean square, at lane `e`, times the gain. -/
def normed (x g : Fin 128 → EReal) (e : Fin 128) : EReal :=
  x e * Ideal.rsqrt (Ideal.div (∑ k : Fin 128, x k * x k) (Ideal.ofBits .f32 0x43000000#32) + Ideal.ofBits .f32 0x358637BD#32) * g e

/-- Equal ingredients give equal entries. -/
theorem normed_congr {x x' g g' : Fin 128 → EReal} {e e' : Fin 128} (hx : ∀ k, x k = x' k) (hg : ∀ k, g k = g' k) (he : (e : ℕ) = e') : normed x g e = normed x' g' e' := by
  obtain rfl : x = x' := funext hx
  obtain rfl : g = g' := funext hg
  rw [Fin.ext he]

/-- Lane `k` of the head that column `n` lies in. -/
def lane (n : Fin 1024) (k : Fin 128) : Fin 1024 := ⟨(n : ℕ) / 128 * 128 + k, by omega⟩

/-- The entry at token (`b`, `r`) and column `n`. -/
def entry (A B : FVec Ideal S16x2048x1024 .f32) (Z : FVec Ideal S16x2048x4096 .f32) (g : FVec Ideal S128 .f32) (b : Fin 16) (r : Fin 2048) (n : Fin 1024) : EReal :=
  normed (fun k => A (ix3 b r (lane n k)) + B (ix3 b r (lane n k))) (fun k => g (ix1 k)) ⟨(n : ℕ) % 128, by omega⟩ * act (Z (ix3 b r ⟨3072 + (n : ℕ), by omega⟩))

/-- The whole array. -/
def arrOut (A B : FVec Ideal S16x2048x1024 .f32) (Z : FVec Ideal S16x2048x4096 .f32) (g : FVec Ideal S128 .f32) : FVec Ideal S16x2048x1024 .bf16 := fun i => entry A B Z g (i 0) (i 1) (i 2)

theorem arrOut_at (A B : FVec Ideal S16x2048x1024 .f32) (Z : FVec Ideal S16x2048x4096 .f32) (g : FVec Ideal S128 .f32) (i : S16x2048x1024.Idx) (b : Fin 16) (r : Fin 2048) (n : Fin 1024)
    (h0 : (i 0 : ℕ) = b) (h1 : (i 1 : ℕ) = r) (h2 : (i 2 : ℕ) = n) : arrOut A B Z g i = entry A B Z g b r n := by
  obtain rfl : i 0 = b := Fin.ext h0
  obtain rfl : i 1 = r := Fin.ext h1
  obtain rfl : i 2 = n := Fin.ext h2
  rfl

/-- One head's rows in the body. -/
def headNorm (o : FVec Ideal S256x128 .f32) (g : FVec Ideal S1x128 .f32) : FVec Ideal S256x128 .f32 :=
  mulf (mulf o (broadcastTo S256x128 (rsqrt (addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

theorem headNorm_at (o : FVec Ideal S256x128 .f32) (g : FVec Ideal S1x128 .f32) (r : Fin 256) (e : Fin 128) :
    headNorm o g (ix2 r e) = normed (fun k => o (ix2 r k)) (fun k => g (ix2 0 k)) e := by
  unfold headNorm normed
  pointwise

/-- The eight heads side by side. -/
def heads (o : FVec Ideal S256x1024 .f32) (g : FVec Ideal S1x128 .f32) : FVec Ideal S256x1024 .f32 :=
  concatenate S256x1024 1 [
    ⟨S256x128, headNorm (extractStridedSlice S256x128 ![0, 0] o slices_S256x1024_o0_0_S256x128) g⟩,
    ⟨S256x128, headNorm (extractStridedSlice S256x128 ![0, 128] o slices_S256x1024_o0_128_S256x128) g⟩,
    ⟨S256x128, headNorm (extractStridedSlice S256x128 ![0, 256] o slices_S256x1024_o0_256_S256x128) g⟩,
    ⟨S256x128, headNorm (extractStridedSlice S256x128 ![0, 384] o slices_S256x1024_o0_384_S256x128) g⟩,
    ⟨S256x128, headNorm (extractStridedSlice S256x128 ![0, 512] o slices_S256x1024_o0_512_S256x128) g⟩,
    ⟨S256x128, headNorm (extractStridedSlice S256x128 ![0, 640] o slices_S256x1024_o0_640_S256x128) g⟩,
    ⟨S256x128, headNorm (extractStridedSlice S256x128 ![0, 768] o slices_S256x1024_o0_768_S256x128) g⟩,
    ⟨S256x128, headNorm (extractStridedSlice S256x128 ![0, 896] o slices_S256x1024_o0_896_S256x128) g⟩]
    concatenates_S256x128_S256x128_S256x128_S256x128_S256x128_S256x128_S256x128_S256x128_S256x1024_d1

/-- The body's heads are these. -/
theorem heads_eq (a b : FVec Ideal S1x256x1024 .f32) (g : FVec Ideal S1x128 .f32) :
    k0_pay13 (k0_pay2 a b) (k0_pay4 a b g) (k0_pay5 a b g) (k0_pay8 (k0_pay6 a b) (k0_pay7 a b) g) (k0_pay9 (k0_pay2 a b) g) (k0_pay10 (k0_pay2 a b) g)
      (k0_pay11 (k0_pay2 a b)) (k0_pay12 (k0_pay2 a b)) g g g = heads (k0_pay2 a b) g := rfl

theorem heads_at (o : FVec Ideal S256x1024 .f32) (g : FVec Ideal S1x128 .f32) (r : Fin 256) (n : Fin 1024) :
    heads o g (ix2 r n) = normed (fun k => o (ix2 r (lane n k))) (fun k => g (ix2 0 k)) ⟨(n : ℕ) % 128, by omega⟩ := by
  pointwise [heads, headNorm_at]
  split_ifs <;> exact normed_congr (fun k => congrArg o (congrArg (ix2 r) (Fin.ext (by dsimp only [lane]; omega)))) (fun _ => rfl) (by dsimp only; omega)

/-- The sum of the two directions, and the body's last step, at an index. -/
theorem sum_at (a b : FVec Ideal S1x256x1024 .f32) (r : Fin 256) (n : Fin 1024) : k0_pay2 a b (ix2 r n) = a (ix3 0 r n) + b (ix3 0 r n) := by
  unfold k0_pay2
  pointwise

theorem last_at (z : FVec Ideal S1x256x1024 .f32) (h : FVec Ideal S256x1024 .f32) (r : Fin 256) (n : Fin 1024) :
    (k0_pay1 (F := Ideal) (k0_pay3 z) h (Scalar.ofBits .f32 0x3F000000#32) (ix3 0 r n) : EReal) = h (ix2 r n) * act (z (ix3 0 r n)) := by
  simp only [act, ← gate_eq]
  unfold k0_pay1 k0_pay3
  pointwise

/-- The body at an index. -/
theorem block_at (a b z : FVec Ideal S1x256x1024 .f32) (g : FVec Ideal S1x128 .f32) (r : Fin 256) (n : Fin 1024) :
    (k0_pay1 (F := Ideal) (k0_pay3 z) (k0_pay13 (k0_pay2 a b) (k0_pay4 a b g) (k0_pay5 a b g) (k0_pay8 (k0_pay6 a b) (k0_pay7 a b) g) (k0_pay9 (k0_pay2 a b) g) (k0_pay10 (k0_pay2 a b) g)
      (k0_pay11 (k0_pay2 a b)) (k0_pay12 (k0_pay2 a b)) g g g) (Scalar.ofBits .f32 0x3F000000#32) (ix3 0 r n) : EReal)
      = normed (fun k => a (ix3 0 r (lane n k)) + b (ix3 0 r (lane n k))) (fun k => g (ix2 0 k)) ⟨(n : ℕ) % 128, by omega⟩ * act (z (ix3 0 r n)) := by
  rw [heads_eq]
  refine (last_at _ _ _ _).trans (congrArg (· * _) ((heads_at _ _ _ _).trans ?_))
  exact normed_congr (fun k => sum_at _ _ _ _) (fun _ => rfl) rfl

variable (m : (ℓ : Loc nD τ sig) → Buf (Elt Ideal) ℓ)

/-- The index maps: batch element and rows; the gate's columns are the last of four groups. -/
theorem idx : ∀ t : Fin cfg0.N, win0_0.index t = ![(t : ℕ) / 8, (t : ℕ) % 8, 0] ∧ win0_1.index t = ![(t : ℕ) / 8, (t : ℕ) % 8, 0]
    ∧ win0_2.index t = ![(t : ℕ) / 8, (t : ℕ) % 8, 3] ∧ win0_3.index t = ![0, 0] ∧ win0_4.index t = ![(t : ℕ) / 8, (t : ℕ) % 8, 0] :=
  (by decide +kernel : ∀ t : Fin grid0.N, _)

/-- The fourth window's array: the gain as a row. -/
theorem entry_g (c : Dev nD) : V m c main_v0 = broadcastInDim S1x128 ![1] bcast_S128_S1x128_1 (m ((c : Thread nD τ).loc main_arg3) : FVec Ideal S128 .f32) := by
  simp only [V, hostOps0]
  entry_read
  rfl

theorem gain_at (g : FVec Ideal S128 .f32) (e : Fin 128) : broadcastInDim S1x128 ![1] bcast_S128_S1x128_1 g (ix2 0 e) = g (ix1 e) := by
  pointwise

section
variable (c : Dev nD) (t : Fin cfg0.N)

/-- The batch element and the token that row `r` of block `t` is. -/
def bat : Fin 16 := ⟨(t : ℕ) / 8, by have : (t : ℕ) < 128 := t.2; omega⟩
def tok (r : Fin 256) : Fin 2048 := ⟨(t : ℕ) % 8 * 256 + r, by omega⟩

/-- The blocks of the two directions, -/
theorem blk_a (r : Fin 256) (n : Fin 1024) : (show FVec Ideal S1x256x1024 .f32 from iblk m c 0 t) (ix3 0 r n)
      = (m ((c : Thread nD τ).loc main_arg0) : FVec Ideal S16x2048x1024 .f32) (ix3 (bat t) (tok t r) n) := by
  unfold bat tok
  blk_simp [iblk, idx t]
  rw [V_main_arg0]
  blk_point [idx t]

theorem blk_b (r : Fin 256) (n : Fin 1024) : (show FVec Ideal S1x256x1024 .f32 from iblk m c 1 t) (ix3 0 r n)
      = (m ((c : Thread nD τ).loc main_arg1) : FVec Ideal S16x2048x1024 .f32) (ix3 (bat t) (tok t r) n) := by
  unfold bat tok
  blk_simp [iblk, idx t]
  rw [V_main_arg1]
  blk_point [idx t]

/-- of the gate, -/
theorem blk_z (r : Fin 256) (n : Fin 1024) : (show FVec Ideal S1x256x1024 .f32 from iblk m c 2 t) (ix3 0 r n)
      = (m ((c : Thread nD τ).loc main_arg2) : FVec Ideal S16x2048x4096 .f32) (ix3 (bat t) (tok t r) ⟨3072 + (n : ℕ), by omega⟩) := by
  unfold bat tok
  blk_simp [iblk, idx t]
  rw [V_main_arg2]
  blk_point [idx t]

/-- and the gain's window. -/
theorem blk_g (e : Fin 128) : (show FVec Ideal S1x128 .f32 from iblk m c 3 t) (ix2 0 e) = (m ((c : Thread nD τ).loc main_arg3) : FVec Ideal S128 .f32) (ix1 e) := by
  refine Eq.trans ?_ (gain_at _ _)
  blk_simp [iblk, idx t]
  rw [entry_g]
  generalize broadcastInDim S1x128 _ _ _ = T
  blk_point [idx t]

end

/-- What the run leaves in the result array. -/
theorem final (c : Dev nD) : (dats m 0 c).arrAt 4 cfg0.N = arrOut (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  unfold_out out0_4
  frame_out
  obtain ⟨r, n, rfl⟩ := idx_plane 256 1024 y
  refine (block_at _ _ _ _ _ _).trans ?_
  refine (congrArg₂ (· * ·) (normed_congr (fun k => congrArg₂ (· + ·) (blk_a m c t r (lane n k)) (blk_b m c t r (lane n k))) (blk_g m c t) rfl) (congrArg act (blk_z m c t r n))).trans ?_
  refine (arrOut_at _ _ _ _ _ (bat t) (tok t r) n ?_ ?_ ?_).symm
  · unfold bat
    blk_simp [idx t]
    exact Nat.add_zero _
  · unfold tok
    blk_simp [idx t]
  · blk_simp [idx t]

end

section
open Cert.GdnPostRefIdeal Cert.GdnPostRefIdeal.Facts₀

/-- The reference's result. -/
theorem ref_eq (A B : FVec Ideal S16x2048x1024 .f32) (Z : FVec Ideal S16x2048x4096 .f32) (g : FVec Ideal S128 .f32) :
    truncf .bf16 (shapeCast _ (mulf (mulf (mulf (shapeCast _ (addf A B) shapeCasts_S16x2048x1024_S16x2048x8x128) (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf (shapeCast _ (addf A B) shapeCasts_S16x2048x1024_S16x2048x8x128) (shapeCast _ (addf A B) shapeCasts_S16x2048x1024_S16x2048x8x128)) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 g))) (mulf (shapeCast _ (extractStridedSlice S16x2048x1024 ![0, 0, 3072] Z slices_S16x2048x4096_S16x2048x1024_0_0_3072) shapeCasts_S16x2048x1024_S16x2048x8x128) (Host.divf (broadcastInDim S16x2048x8x128 ![] bcast_S_S16x2048x8x128 (constant S_ .f32 0x3F800000#32)) (addf (broadcastInDim S16x2048x8x128 ![] bcast_S_S16x2048x8x128 (constant S_ .f32 0x3F800000#32)) (Host.exp (Host.negf (shapeCast _ (extractStridedSlice S16x2048x1024 ![0, 0, 3072] Z slices_S16x2048x4096_S16x2048x1024_0_0_3072) shapeCasts_S16x2048x1024_S16x2048x8x128))))))) shapeCasts_S16x2048x8x128_S16x2048x1024) bitsLt_bf16_f32
    = arrOut A B Z g := by
  funext i
  idx_vars i
  have e : (⟨(i2 : ℕ) / 128 * 128 + (i2 : ℕ) % 128, by omega⟩ : Fin 1024) = i2 := Fin.ext (by dsimp only; omega)
  unfold arrOut entry normed act lane
  pointwise
  rw [e]

end

theorem frame_p : Cert.quiescent_GdnPost := fun m ρ _ => Cert.GdnPost.Gen.frame m ρ
theorem frame_pi : Cert.quiescent_GdnPostIdeal := fun m ρ _ => Cert.GdnPostIdeal.Gen.frame m ρ
theorem frame_ri : Cert.quiescent_GdnPostRefIdeal := fun m ρ _ =>
  (θ_run Cert.GdnPostRefIdeal.defs _ _).mono (fun r h => ⟨fun c => (h c).2, Idealize.ShloMosaic.sem_eq_zero_of_no_sems (by decide) r.2⟩)
    (Cert.GdnPostRefIdeal.Value.run (F := Ideal) m ρ)
theorem preserves : Cert.preserves_GdnPost_GdnPostIdeal := trivial

/-- The kernel and the reference end with equal results. -/
theorem algebraic : Cert.algebraic_GdnPostIdeal_GdnPostRefIdeal := by
  intro m ρ m' ρ' _ hagree
  refine ⟨fun c => arrOut (m ((c.tc : Thread Cert.GdnPostIdeal.nD Cert.GdnPostIdeal.τ).loc Cert.GdnPostIdeal.main_arg0)) (m ((c.tc : Thread Cert.GdnPostIdeal.nD Cert.GdnPostIdeal.τ).loc Cert.GdnPostIdeal.main_arg1)) (m ((c.tc : Thread Cert.GdnPostIdeal.nD Cert.GdnPostIdeal.τ).loc Cert.GdnPostIdeal.main_arg2)) (m ((c.tc : Thread Cert.GdnPostIdeal.nD Cert.GdnPostIdeal.τ).loc Cert.GdnPostIdeal.main_arg3)),
    (θ_run Cert.GdnPostIdeal.defs _ _).mono (fun _ h c => ⟨(h c).1.trans (final m c), (h c).2⟩) (Cert.GdnPostIdeal.Value.run_blocks (F := Ideal) m ρ), ?_⟩
  refine (θ_run Cert.GdnPostRefIdeal.defs _ _).mono (fun _ h c => ⟨(h c).1.trans ?_, (h c).2⟩) (Cert.GdnPostRefIdeal.Value.run (F := Ideal) m' ρ')
  obtain ⟨a0, a1, a2, a3⟩ := hagree c
  show _ = arrOut _ _ _ _
  rw [← a0, ← a1, ← a2, ← a3]
  exact ref_eq _ _ _ _

end Cert.Proof.GdnPostClaims

end
-- ==== Proof.lean ====
module

public import proofs.«01_k».proof.Proof.Gen.KernelIdeal.Value
public import proofs.«01_k».proof.Proof.Gen.ReferenceIdeal.Run
public import proofs.«01_k».proof.Defs
public import proofs.«01_k».proof.Proof.AttnClaims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Proj1Claims
public import proofs.«01_k».proof.Proof.Gen.Proj1
public import proofs.«01_k».proof.Proof.Gen.Proj1Ideal.Value
public import proofs.«01_k».proof.Proof.Gen.Proj1RefIdeal.Run
public import proofs.«01_k».proof.Proof.Proj3Claims
public import proofs.«01_k».proof.Proof.Gen.Proj3
public import proofs.«01_k».proof.Proof.Gen.Proj3Ideal.Value
public import proofs.«01_k».proof.Proof.Gen.Proj3RefIdeal.Run
public import proofs.«01_k».proof.Proof.Proj4Claims
public import proofs.«01_k».proof.Proof.Gen.Proj4
public import proofs.«01_k».proof.Proof.Gen.Proj4Ideal.Value
public import proofs.«01_k».proof.Proof.Gen.Proj4RefIdeal.Run
public import proofs.«01_k».proof.Proof.Proj6Claims
public import proofs.«01_k».proof.Proof.Gen.Proj6
public import proofs.«01_k».proof.Proof.Gen.Proj6Ideal.Value
public import proofs.«01_k».proof.Proof.Gen.Proj6RefIdeal.Run
public import proofs.«01_k».proof.Proof.ExpertsClaims
public import proofs.«01_k».proof.Proof.Gen.Experts
public import proofs.«01_k».proof.Proof.Gen.ExpertsIdeal.Value
public import proofs.«01_k».proof.Proof.Gen.ExpertsRefIdeal.Run
public import proofs.«01_k».proof.Proof.MergeClaims
public import proofs.«01_k».proof.Proof.Gen.Merge
public import proofs.«01_k».proof.Proof.Gen.MergeIdeal.Value
public import proofs.«01_k».proof.Proof.Gen.MergeRefIdeal.Run
public import proofs.«01_k».proof.Proof.OutClaims
public import proofs.«01_k».proof.Proof.Gen.Out
public import proofs.«01_k».proof.Proof.Gen.OutIdeal.Value
public import proofs.«01_k».proof.Proof.Gen.OutRefIdeal.Run
public import proofs.«01_k».proof.Proof.NormClaims
public import proofs.«01_k».proof.Proof.Gen.Norm
public import proofs.«01_k».proof.Proof.Gen.NormIdeal.Value
public import proofs.«01_k».proof.Proof.Gen.NormRefIdeal.Run
public import proofs.«01_k».proof.Proof.NormmodClaims
public import proofs.«01_k».proof.Proof.Gen.Normmod
public import proofs.«01_k».proof.Proof.Gen.NormmodIdeal.Value
public import proofs.«01_k».proof.Proof.Gen.NormmodRefIdeal.Run
public import proofs.«01_k».proof.Proof.AdaClaims
public import proofs.«01_k».proof.Proof.Gen.Ada
public import proofs.«01_k».proof.Proof.Gen.AdaIdeal.Value
public import proofs.«01_k».proof.Proof.Gen.AdaRefIdeal.Run
public import proofs.«01_k».proof.Proof.GdnPostClaims
public import proofs.«01_k».proof.Proof.Gen.GdnPost
public import proofs.«01_k».proof.Proof.Gen.GdnPostIdeal.Value
public import proofs.«01_k».proof.Proof.Gen.GdnPostRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Proj1.Gen.facts, Cert.Proj1Ideal.Gen.facts, Cert.Proj1RefIdeal.Gen.facts,
    Cert.Proj3.Gen.facts, Cert.Proj3Ideal.Gen.facts, Cert.Proj3RefIdeal.Gen.facts,
    Cert.Proj4.Gen.facts, Cert.Proj4Ideal.Gen.facts, Cert.Proj4RefIdeal.Gen.facts,
    Cert.Proj6.Gen.facts, Cert.Proj6Ideal.Gen.facts, Cert.Proj6RefIdeal.Gen.facts,
    Cert.Experts.Gen.facts, Cert.ExpertsIdeal.Gen.facts, Cert.ExpertsRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    Cert.Norm.Gen.facts, Cert.NormIdeal.Gen.facts, Cert.NormRefIdeal.Gen.facts,
    Cert.Normmod.Gen.facts, Cert.NormmodIdeal.Gen.facts, Cert.NormmodRefIdeal.Gen.facts,
    Cert.Ada.Gen.facts, Cert.AdaIdeal.Gen.facts, Cert.AdaRefIdeal.Gen.facts,
    Cert.GdnPost.Gen.facts, Cert.GdnPostIdeal.Gen.facts, Cert.GdnPostRefIdeal.Gen.facts,
    Cert.Pre_finite.Gen.facts,
    AttnClaims.frame_p, AttnClaims.frame_pi, AttnClaims.frame_pi_finite, AttnClaims.frame_ri, AttnClaims.frame_ri_finite,
    Proj1Claims.frame_p, Proj1Claims.frame_pi, Proj1Claims.frame_ri,
    Proj3Claims.frame_p, Proj3Claims.frame_pi, Proj3Claims.frame_ri,
    Proj4Claims.frame_p, Proj4Claims.frame_pi, Proj4Claims.frame_ri,
    Proj6Claims.frame_p, Proj6Claims.frame_pi, Proj6Claims.frame_ri,
    ExpertsClaims.frame_p, ExpertsClaims.frame_pi, ExpertsClaims.frame_ri,
    MergeClaims.frame_p, MergeClaims.frame_pi, MergeClaims.frame_ri,
    OutClaims.frame_p, OutClaims.frame_pi, OutClaims.frame_ri,
    NormClaims.frame_p, NormClaims.frame_pi, NormClaims.frame_ri,
    NormmodClaims.frame_p, NormmodClaims.frame_pi, NormmodClaims.frame_ri,
    AdaClaims.frame_p, AdaClaims.frame_pi, AdaClaims.frame_ri,
    GdnPostClaims.frame_p, GdnPostClaims.frame_pi, GdnPostClaims.frame_ri,
    AttnClaims.preserves, AttnClaims.algebraic,
    Proj1Claims.preserves, Proj1Claims.algebraic,
    Proj3Claims.preserves, Proj3Claims.algebraic,
    Proj4Claims.preserves, Proj4Claims.algebraic,
    Proj6Claims.preserves, Proj6Claims.algebraic,
    ExpertsClaims.preserves, ExpertsClaims.algebraic,
    MergeClaims.preserves, MergeClaims.algebraic,
    OutClaims.preserves, OutClaims.algebraic,
    NormClaims.preserves, NormClaims.algebraic,
    NormmodClaims.preserves, NormmodClaims.algebraic,
    AdaClaims.preserves, AdaClaims.algebraic,
    GdnPostClaims.preserves, GdnPostClaims.algebraic⟩

end Cert.Proof

end
